-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S1280x1024 : Shape := ⟨2, ![1280, 1024]⟩
abbrev S1024x1024 : Shape := ⟨2, ![1024, 1024]⟩
abbrev S256x1024 : Shape := ⟨2, ![256, 1024]⟩
abbrev S384x1024 : Shape := ⟨2, ![384, 1024]⟩
abbrev S_ : Shape := ⟨0, ![]⟩
abbrev S10 : Shape := ⟨1, ![10]⟩
abbrev S8 : Shape := ⟨1, ![8]⟩
abbrev S3 : Shape := ⟨1, ![3]⟩
abbrev S6 : Shape := ⟨1, ![6]⟩
abbrev S1 : Shape := ⟨1, ![1]⟩
abbrev S128x1024 : Shape := ⟨2, ![128, 1024]⟩
abbrev S1x128x1024 : Shape := ⟨3, ![1, 128, 1024]⟩
abbrev S1x4096x1024 : Shape := ⟨3, ![1, 4096, 1024]⟩

abbrev nBuf : Space → Nat
  | .hbm => 2
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S4096x1024, .bf16⟩
  | .local _ .vmem, ⟨1, _⟩ => ⟨S4096x1024, .f32⟩
  | .local _ .vmem, ⟨2, _⟩ => ⟨S1280x1024, .f32⟩
  | .local _ .vmem, ⟨3, _⟩ => ⟨S1280x1024, .bf16⟩
  | .local _ .vmem, ⟨4, _⟩ => ⟨S1024x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S384x1024, .bf16⟩
  | .local _ .vmem, ⟨9, _⟩ => ⟨S384x1024, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v41 : BitVec 32 := Scalar.muli v2 c8_i32_23
  let v42 : BitVec 32 := Scalar.addi c0_i32_24 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_25 : BitVec 32 := 4#32
  let v43 : BitVec 32 := Scalar.muli v9 c4_i32_25
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v45 : BitVec 32 := Scalar.muli v8 c1_i32_26
  let v46 : BitVec 32 := Scalar.addi v44 v45
  v46.toNat
def k0_dev2 (d0 : Dev nD) : Nat :=
  let c0_i32_29 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_28 : BitVec 32 := 8#32
  let v47 : BitVec 32 := Scalar.muli v10 c8_i32_28
  let v48 : BitVec 32 := Scalar.addi c0_i32_29 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v49 : BitVec 32 := Scalar.muli v5 c4_i32_30
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v51 : BitVec 32 := Scalar.muli v8 c1_i32_31
  let v52 : BitVec 32 := Scalar.addi v50 v51
  v52.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v53 : BitVec 32 := Scalar.muli v2 c8_i32_33
  let v54 : BitVec 32 := Scalar.addi c0_i32_34 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v55 : BitVec 32 := Scalar.muli v5 c4_i32_35
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_36 : BitVec 32 := 1#32
  let v57 : BitVec 32 := Scalar.muli v23 c1_i32_36
  let v58 : BitVec 32 := Scalar.addi v56 v57
  v58.toNat
def k0_off1 (d0 : Dev nD) (c640_i32 : BitVec 32) : Fin 3 → Nat :=
  let c0_i32_37 : BitVec 32 := 0#32
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v27 : BitVec 32 := Scalar.addi v26 v20
  let c1024_i32_13 : BitVec 32 := 1024#32
  let v28 : BitVec 32 := Scalar.muli v27 c1024_i32_13
  let v59 : BitVec 32 := Scalar.addi v28 c640_i32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_11 : BitVec 32 := 1024#32
  let v25 : BitVec 32 := Scalar.muli v9 c1024_i32_11
  ![0, v59.toNat, v25.toNat]
def k0_off2 (d0 : Dev nD) (c0_i32_67 : BitVec 32) : Fin 3 → Nat :=
  let c0_i32_68 : BitVec 32 := 0#32
  let c2_i32_19 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v36 : BitVec 32 := Scalar.muli c2_i32_19 v10
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v37 : BitVec 32 := Scalar.subi c1_i32_20 v20
  let v38 : BitVec 32 := Scalar.addi v36 v37
  let c1024_i32_21 : BitVec 32 := 1024#32
  let v39 : BitVec 32 := Scalar.muli v38 c1024_i32_21
  let v107 : BitVec 32 := Scalar.addi v39 c0_i32_67
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_11 : BitVec 32 := 1024#32
  let v25 : BitVec 32 := Scalar.muli v9 c1024_i32_11
  ![0, v107.toNat, v25.toNat]
def k0_off3 (d0 : Dev nD) : Fin 3 → Nat :=
  let c0_i32_75 : BitVec 32 := 0#32
  let c0_i32_76 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  ![0, 0, v24.toNat]
def k0_dev4 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v131 : BitVec 32 := Scalar.muli v2 c8_i32_85
  let v132 : BitVec 32 := Scalar.addi c0_i32_86 v131
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_87 : BitVec 32 := 4#32
  let v133 : BitVec 32 := Scalar.muli v9 c4_i32_87
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v135 : BitVec 32 := Scalar.muli v8 c1_i32_88
  let v136 : BitVec 32 := Scalar.addi v134 v135
  v136.toNat
def k0_dev5 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v153 : BitVec 32 := Scalar.muli v2 c8_i32_102
  let v154 : BitVec 32 := Scalar.addi c0_i32_103 v153
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_104 : BitVec 32 := 4#32
  let v155 : BitVec 32 := Scalar.muli v9 c4_i32_104
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v157 : BitVec 32 := Scalar.muli v8 c1_i32_105
  let v158 : BitVec 32 := Scalar.addi v156 v157
  v158.toNat
def k0_dev6 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v175 : BitVec 32 := Scalar.muli v2 c8_i32_119
  let v176 : BitVec 32 := Scalar.addi c0_i32_120 v175
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_121 : BitVec 32 := 4#32
  let v177 : BitVec 32 := Scalar.muli v9 c4_i32_121
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v179 : BitVec 32 := Scalar.muli v8 c1_i32_122
  let v180 : BitVec 32 := Scalar.addi v178 v179
  v180.toNat
def k0_dev7 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v197 : BitVec 32 := Scalar.muli v2 c8_i32_136
  let v198 : BitVec 32 := Scalar.addi c0_i32_137 v197
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_138 : BitVec 32 := 4#32
  let v199 : BitVec 32 := Scalar.muli v9 c4_i32_138
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v201 : BitVec 32 := Scalar.muli v8 c1_i32_139
  let v202 : BitVec 32 := Scalar.addi v200 v201
  v202.toNat
def k0_dev8 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v219 : BitVec 32 := Scalar.muli v2 c8_i32_153
  let v220 : BitVec 32 := Scalar.addi c0_i32_154 v219
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_155 : BitVec 32 := 4#32
  let v221 : BitVec 32 := Scalar.muli v9 c4_i32_155
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v223 : BitVec 32 := Scalar.muli v8 c1_i32_156
  let v224 : BitVec 32 := Scalar.addi v222 v223
  v224.toNat
def k0_dev9 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v241 : BitVec 32 := Scalar.muli v2 c8_i32_170
  let v242 : BitVec 32 := Scalar.addi c0_i32_171 v241
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_172 : BitVec 32 := 4#32
  let v243 : BitVec 32 := Scalar.muli v9 c4_i32_172
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v245 : BitVec 32 := Scalar.muli v8 c1_i32_173
  let v246 : BitVec 32 := Scalar.addi v244 v245
  v246.toNat
def k0_dev10 (d0 : Dev nD) : Nat :=
  let c0_i32_189 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_188 : BitVec 32 := 8#32
  let v263 : BitVec 32 := Scalar.muli v2 c8_i32_188
  let v264 : BitVec 32 := Scalar.addi c0_i32_189 v263
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_190 : BitVec 32 := 4#32
  let v265 : BitVec 32 := Scalar.muli v9 c4_i32_190
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v267 : BitVec 32 := Scalar.muli v8 c1_i32_191
  let v268 : BitVec 32 := Scalar.addi v266 v267
  v268.toNat
def k0_dev11 (d0 : Dev nD) : Nat :=
  let c0_i32_206 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_205 : BitVec 32 := 8#32
  let v285 : BitVec 32 := Scalar.muli v2 c8_i32_205
  let v286 : BitVec 32 := Scalar.addi c0_i32_206 v285
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_207 : BitVec 32 := 4#32
  let v287 : BitVec 32 := Scalar.muli v9 c4_i32_207
  let v288 : BitVec 32 := Scalar.addi v286 v287
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v289 : BitVec 32 := Scalar.muli v8 c1_i32_208
  let v290 : BitVec 32 := Scalar.addi v288 v289
  v290.toNat
def k0_dev12 (d0 : Dev nD) : Nat :=
  let c0_i32_223 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_222 : BitVec 32 := 8#32
  let v307 : BitVec 32 := Scalar.muli v2 c8_i32_222
  let v308 : BitVec 32 := Scalar.addi c0_i32_223 v307
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_224 : BitVec 32 := 4#32
  let v309 : BitVec 32 := Scalar.muli v9 c4_i32_224
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v311 : BitVec 32 := Scalar.muli v8 c1_i32_225
  let v312 : BitVec 32 := Scalar.addi v310 v311
  v312.toNat
def k0_dev13 (d0 : Dev nD) : Nat :=
  let c0_i32_240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_239 : BitVec 32 := 8#32
  let v329 : BitVec 32 := Scalar.muli v2 c8_i32_239
  let v330 : BitVec 32 := Scalar.addi c0_i32_240 v329
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_241 : BitVec 32 := 4#32
  let v331 : BitVec 32 := Scalar.muli v9 c4_i32_241
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v333 : BitVec 32 := Scalar.muli v8 c1_i32_242
  let v334 : BitVec 32 := Scalar.addi v332 v333
  v334.toNat
def k0_dev14 (d0 : Dev nD) : Nat :=
  let c0_i32_260 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_259 : BitVec 32 := 8#32
  let v351 : BitVec 32 := Scalar.muli v10 c8_i32_259
  let v352 : BitVec 32 := Scalar.addi c0_i32_260 v351
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v353 : BitVec 32 := Scalar.muli v5 c4_i32_261
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v355 : BitVec 32 := Scalar.muli v8 c1_i32_262
  let v356 : BitVec 32 := Scalar.addi v354 v355
  v356.toNat
def k0_dev15 (d0 : Dev nD) : Nat :=
  let c0_i32_270 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_269 : BitVec 32 := 8#32
  let v363 : BitVec 32 := Scalar.muli v2 c8_i32_269
  let v364 : BitVec 32 := Scalar.addi c0_i32_270 v363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_271 : BitVec 32 := 4#32
  let v365 : BitVec 32 := Scalar.muli v5 c4_i32_271
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_272 : BitVec 32 := 1#32
  let v367 : BitVec 32 := Scalar.muli v23 c1_i32_272
  let v368 : BitVec 32 := Scalar.addi v366 v367
  v368.toNat
def k0_dev16 (d0 : Dev nD) : Nat :=
  let c0_i32_290 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_289 : BitVec 32 := 8#32
  let v385 : BitVec 32 := Scalar.muli v10 c8_i32_289
  let v386 : BitVec 32 := Scalar.addi c0_i32_290 v385
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_291 : BitVec 32 := 4#32
  let v387 : BitVec 32 := Scalar.muli v5 c4_i32_291
  let v388 : BitVec 32 := Scalar.addi v386 v387
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v389 : BitVec 32 := Scalar.muli v8 c1_i32_292
  let v390 : BitVec 32 := Scalar.addi v388 v389
  v390.toNat
def k0_dev17 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_299 : BitVec 32 := 8#32
  let v397 : BitVec 32 := Scalar.muli v2 c8_i32_299
  let v398 : BitVec 32 := Scalar.addi c0_i32_300 v397
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v399 : BitVec 32 := Scalar.muli v5 c4_i32_301
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_302 : BitVec 32 := 1#32
  let v401 : BitVec 32 := Scalar.muli v23 c1_i32_302
  let v402 : BitVec 32 := Scalar.addi v400 v401
  v402.toNat
def k0_dev18 (d0 : Dev nD) : Nat :=
  let c0_i32_320 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_319 : BitVec 32 := 8#32
  let v419 : BitVec 32 := Scalar.muli v10 c8_i32_319
  let v420 : BitVec 32 := Scalar.addi c0_i32_320 v419
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321 : BitVec 32 := 4#32
  let v421 : BitVec 32 := Scalar.muli v5 c4_i32_321
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v423 : BitVec 32 := Scalar.muli v8 c1_i32_322
  let v424 : BitVec 32 := Scalar.addi v422 v423
  v424.toNat
def k0_dev19 (d0 : Dev nD) : Nat :=
  let c0_i32_330 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_329 : BitVec 32 := 8#32
  let v431 : BitVec 32 := Scalar.muli v2 c8_i32_329
  let v432 : BitVec 32 := Scalar.addi c0_i32_330 v431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_331 : BitVec 32 := 4#32
  let v433 : BitVec 32 := Scalar.muli v5 c4_i32_331
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_332 : BitVec 32 := 1#32
  let v435 : BitVec 32 := Scalar.muli v23 c1_i32_332
  let v436 : BitVec 32 := Scalar.addi v434 v435
  v436.toNat
def k0_dev20 (d0 : Dev nD) : Nat :=
  let c0_i32_350 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_349 : BitVec 32 := 8#32
  let v453 : BitVec 32 := Scalar.muli v10 c8_i32_349
  let v454 : BitVec 32 := Scalar.addi c0_i32_350 v453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v455 : BitVec 32 := Scalar.muli v5 c4_i32_351
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v457 : BitVec 32 := Scalar.muli v8 c1_i32_352
  let v458 : BitVec 32 := Scalar.addi v456 v457
  v458.toNat
def k0_dev21 (d0 : Dev nD) : Nat :=
  let c0_i32_360 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_359 : BitVec 32 := 8#32
  let v465 : BitVec 32 := Scalar.muli v2 c8_i32_359
  let v466 : BitVec 32 := Scalar.addi c0_i32_360 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_361 : BitVec 32 := 4#32
  let v467 : BitVec 32 := Scalar.muli v5 c4_i32_361
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_362 : BitVec 32 := 1#32
  let v469 : BitVec 32 := Scalar.muli v23 c1_i32_362
  let v470 : BitVec 32 := Scalar.addi v468 v469
  v470.toNat
def k0_dev22 (d0 : Dev nD) : Nat :=
  let c0_i32_380 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_379 : BitVec 32 := 8#32
  let v487 : BitVec 32 := Scalar.muli v10 c8_i32_379
  let v488 : BitVec 32 := Scalar.addi c0_i32_380 v487
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_381 : BitVec 32 := 4#32
  let v489 : BitVec 32 := Scalar.muli v5 c4_i32_381
  let v490 : BitVec 32 := Scalar.addi v488 v489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v491 : BitVec 32 := Scalar.muli v8 c1_i32_382
  let v492 : BitVec 32 := Scalar.addi v490 v491
  v492.toNat
def k0_dev23 (d0 : Dev nD) : Nat :=
  let c0_i32_390 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389 : BitVec 32 := 8#32
  let v499 : BitVec 32 := Scalar.muli v2 c8_i32_389
  let v500 : BitVec 32 := Scalar.addi c0_i32_390 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v501 : BitVec 32 := Scalar.muli v5 c4_i32_391
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_392 : BitVec 32 := 1#32
  let v503 : BitVec 32 := Scalar.muli v23 c1_i32_392
  let v504 : BitVec 32 := Scalar.addi v502 v503
  v504.toNat
def k0_dev24 (d0 : Dev nD) : Nat :=
  let c0_i32_410 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_409 : BitVec 32 := 8#32
  let v521 : BitVec 32 := Scalar.muli v10 c8_i32_409
  let v522 : BitVec 32 := Scalar.addi c0_i32_410 v521
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_411 : BitVec 32 := 4#32
  let v523 : BitVec 32 := Scalar.muli v5 c4_i32_411
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v525 : BitVec 32 := Scalar.muli v8 c1_i32_412
  let v526 : BitVec 32 := Scalar.addi v524 v525
  v526.toNat
def k0_dev25 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v533 : BitVec 32 := Scalar.muli v2 c8_i32_419
  let v534 : BitVec 32 := Scalar.addi c0_i32_420 v533
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_421 : BitVec 32 := 4#32
  let v535 : BitVec 32 := Scalar.muli v5 c4_i32_421
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_422 : BitVec 32 := 1#32
  let v537 : BitVec 32 := Scalar.muli v23 c1_i32_422
  let v538 : BitVec 32 := Scalar.addi v536 v537
  v538.toNat
def k0_dev26 (d0 : Dev nD) : Nat :=
  let c0_i32_440 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_439 : BitVec 32 := 8#32
  let v555 : BitVec 32 := Scalar.muli v10 c8_i32_439
  let v556 : BitVec 32 := Scalar.addi c0_i32_440 v555
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_441 : BitVec 32 := 4#32
  let v557 : BitVec 32 := Scalar.muli v5 c4_i32_441
  let v558 : BitVec 32 := Scalar.addi v556 v557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v559 : BitVec 32 := Scalar.muli v8 c1_i32_442
  let v560 : BitVec 32 := Scalar.addi v558 v559
  v560.toNat
def k0_dev27 (d0 : Dev nD) : Nat :=
  let c0_i32_450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v567 : BitVec 32 := Scalar.muli v2 c8_i32_449
  let v568 : BitVec 32 := Scalar.addi c0_i32_450 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_451 : BitVec 32 := 4#32
  let v569 : BitVec 32 := Scalar.muli v5 c4_i32_451
  let v570 : BitVec 32 := Scalar.addi v568 v569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_452 : BitVec 32 := 1#32
  let v571 : BitVec 32 := Scalar.muli v23 c1_i32_452
  let v572 : BitVec 32 := Scalar.addi v570 v571
  v572.toNat
def k0_dev28 (d0 : Dev nD) : Nat :=
  let c0_i32_470 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_469 : BitVec 32 := 8#32
  let v589 : BitVec 32 := Scalar.muli v10 c8_i32_469
  let v590 : BitVec 32 := Scalar.addi c0_i32_470 v589
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_471 : BitVec 32 := 4#32
  let v591 : BitVec 32 := Scalar.muli v5 c4_i32_471
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v593 : BitVec 32 := Scalar.muli v8 c1_i32_472
  let v594 : BitVec 32 := Scalar.addi v592 v593
  v594.toNat
def k0_dev29 (d0 : Dev nD) : Nat :=
  let c0_i32_480 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_479 : BitVec 32 := 8#32
  let v601 : BitVec 32 := Scalar.muli v2 c8_i32_479
  let v602 : BitVec 32 := Scalar.addi c0_i32_480 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_481 : BitVec 32 := 4#32
  let v603 : BitVec 32 := Scalar.muli v5 c4_i32_481
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_482 : BitVec 32 := 1#32
  let v605 : BitVec 32 := Scalar.muli v23 c1_i32_482
  let v606 : BitVec 32 := Scalar.addi v604 v605
  v606.toNat
def k0_dev30 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_499 : BitVec 32 := 8#32
  let v623 : BitVec 32 := Scalar.muli v2 c8_i32_499
  let v624 : BitVec 32 := Scalar.addi c0_i32_500 v623
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_501 : BitVec 32 := 4#32
  let v625 : BitVec 32 := Scalar.muli v5 c4_i32_501
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_502 : BitVec 32 := 1#32
  let v627 : BitVec 32 := Scalar.muli v23 c1_i32_502
  let v628 : BitVec 32 := Scalar.addi v626 v627
  v628.toNat
def k0_dev31 (d0 : Dev nD) : Nat :=
  let c0_i32_520 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_519 : BitVec 32 := 8#32
  let v645 : BitVec 32 := Scalar.muli v2 c8_i32_519
  let v646 : BitVec 32 := Scalar.addi c0_i32_520 v645
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_521 : BitVec 32 := 4#32
  let v647 : BitVec 32 := Scalar.muli v5 c4_i32_521
  let v648 : BitVec 32 := Scalar.addi v646 v647
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_522 : BitVec 32 := 1#32
  let v649 : BitVec 32 := Scalar.muli v23 c1_i32_522
  let v650 : BitVec 32 := Scalar.addi v648 v649
  v650.toNat
def k0_dev32 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v667 : BitVec 32 := Scalar.muli v2 c8_i32_539
  let v668 : BitVec 32 := Scalar.addi c0_i32_540 v667
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v669 : BitVec 32 := Scalar.muli v5 c4_i32_541
  let v670 : BitVec 32 := Scalar.addi v668 v669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.muli c2_i32_10 v20
  let v23 : BitVec 32 := Scalar.subi v21 v22
  let c1_i32_542 : BitVec 32 := 1#32
  let v671 : BitVec 32 := Scalar.muli v23 c1_i32_542
  let v672 : BitVec 32 := Scalar.addi v670 v671
  v672.toNat
def k0_dev33 (d0 : Dev nD) : Nat :=
  let c0_i32_560 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_559 : BitVec 32 := 8#32
  let v689 : BitVec 32 := Scalar.muli v10 c8_i32_559
  let v690 : BitVec 32 := Scalar.addi c0_i32_560 v689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_561 : BitVec 32 := 4#32
  let v691 : BitVec 32 := Scalar.muli v5 c4_i32_561
  let v692 : BitVec 32 := Scalar.addi v690 v691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v693 : BitVec 32 := Scalar.muli v8 c1_i32_562
  let v694 : BitVec 32 := Scalar.addi v692 v693
  v694.toNat
def k0_dev34 (d0 : Dev nD) : Nat :=
  let c0_i32_580 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_579 : BitVec 32 := 8#32
  let v711 : BitVec 32 := Scalar.muli v10 c8_i32_579
  let v712 : BitVec 32 := Scalar.addi c0_i32_580 v711
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_581 : BitVec 32 := 4#32
  let v713 : BitVec 32 := Scalar.muli v5 c4_i32_581
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v715 : BitVec 32 := Scalar.muli v8 c1_i32_582
  let v716 : BitVec 32 := Scalar.addi v714 v715
  v716.toNat
def k0_dev35 (d0 : Dev nD) : Nat :=
  let c0_i32_600 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_599 : BitVec 32 := 8#32
  let v733 : BitVec 32 := Scalar.muli v10 c8_i32_599
  let v734 : BitVec 32 := Scalar.addi c0_i32_600 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_601 : BitVec 32 := 4#32
  let v735 : BitVec 32 := Scalar.muli v5 c4_i32_601
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v737 : BitVec 32 := Scalar.muli v8 c1_i32_602
  let v738 : BitVec 32 := Scalar.addi v736 v737
  v738.toNat
def k0_off4 (d0 : Dev nD) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v27 : BitVec 32 := Scalar.addi v26 v20
  let c1024_i32_13 : BitVec 32 := 1024#32
  let v28 : BitVec 32 := Scalar.muli v27 c1024_i32_13
  let v747 : Index := Scalar.indexCast v28
  let c0_609 : Index := 0#32
  ![v747.toNat, 0]
def k0_off5 (d0 : Dev nD) : Fin 2 → Nat :=
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v27 : BitVec 32 := Scalar.addi v26 v20
  let c1024_i32_13 : BitVec 32 := 1024#32
  let v28 : BitVec 32 := Scalar.muli v27 c1024_i32_13
  let c0_i32_614 : BitVec 32 := 0#32
  ![v28.toNat, 0]
def k0_off6 (d0 : Dev nD) : Fin 2 → Nat :=
  let c2_i32_14 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v29 : BitVec 32 := Scalar.muli c2_i32_14 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v30 : BitVec 32 := Scalar.addi v29 v20
  let c1024_i32_15 : BitVec 32 := 1024#32
  let v31 : BitVec 32 := Scalar.muli v30 c1024_i32_15
  let v811 : Index := Scalar.indexCast v31
  let c0_666 : Index := 0#32
  ![v811.toNat, 0]
def k0_off7 (d0 : Dev nD) : Fin 2 → Nat :=
  let c2_i32_14 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v29 : BitVec 32 := Scalar.muli c2_i32_14 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v30 : BitVec 32 := Scalar.addi v29 v20
  let c1024_i32_15 : BitVec 32 := 1024#32
  let v31 : BitVec 32 := Scalar.muli v30 c1024_i32_15
  let c0_i32_671 : BitVec 32 := 0#32
  ![v31.toNat, 0]
def k0_off8 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v33 : BitVec 32 := Scalar.subi c1_i32_17 v20
  let v34 : BitVec 32 := Scalar.addi v32 v33
  let c1024_i32_18 : BitVec 32 := 1024#32
  let v35 : BitVec 32 := Scalar.muli v34 c1024_i32_18
  let v875 : Index := Scalar.indexCast v35
  let c0_723 : Index := 0#32
  ![v875.toNat, 0]
def k0_off9 (d0 : Dev nD) : Fin 2 → Nat :=
  let c2_i32_16 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.muli c2_i32_16 v2
  let c1_i32_17 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v33 : BitVec 32 := Scalar.subi c1_i32_17 v20
  let v34 : BitVec 32 := Scalar.addi v32 v33
  let c1024_i32_18 : BitVec 32 := 1024#32
  let v35 : BitVec 32 := Scalar.muli v34 c1024_i32_18
  let c0_i32_728 : BitVec 32 := 0#32
  ![v35.toNat, 0]
def k0_off10 (d0 : Dev nD) : Fin 2 → Nat :=
  let c2_i32_19 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v36 : BitVec 32 := Scalar.muli c2_i32_19 v10
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v37 : BitVec 32 := Scalar.subi c1_i32_20 v20
  let v38 : BitVec 32 := Scalar.addi v36 v37
  let c1024_i32_21 : BitVec 32 := 1024#32
  let v39 : BitVec 32 := Scalar.muli v38 c1024_i32_21
  let v909 : Index := Scalar.indexCast v39
  let c0_750 : Index := 0#32
  ![v909.toNat, 0]
def k0_off11 (d0 : Dev nD) : Fin 2 → Nat :=
  let c2_i32_19 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v36 : BitVec 32 := Scalar.muli c2_i32_19 v10
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v37 : BitVec 32 := Scalar.subi c1_i32_20 v20
  let v38 : BitVec 32 := Scalar.addi v36 v37
  let c1024_i32_21 : BitVec 32 := 1024#32
  let v39 : BitVec 32 := Scalar.muli v38 c1024_i32_21
  let c0_i32_755 : BitVec 32 := 0#32
  ![v39.toNat, 0]
def k0_off12 (d0 : Dev nD) (c256_i32_787 : BitVec 32) : Fin 2 → Nat :=
  let c2_i32_19 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v36 : BitVec 32 := Scalar.muli c2_i32_19 v10
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v37 : BitVec 32 := Scalar.subi c1_i32_20 v20
  let v38 : BitVec 32 := Scalar.addi v36 v37
  let c1024_i32_21 : BitVec 32 := 1024#32
  let v39 : BitVec 32 := Scalar.muli v38 c1024_i32_21
  let v953 : BitVec 32 := Scalar.addi v39 c256_i32_787
  let v954 : Index := Scalar.indexCast v953
  let c0_788 : Index := 0#32
  ![v954.toNat, 0]
def k0_off13 (d0 : Dev nD) (c256_i32_793 : BitVec 32) : Fin 2 → Nat :=
  let c2_i32_19 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let v36 : BitVec 32 := Scalar.muli c2_i32_19 v10
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v37 : BitVec 32 := Scalar.subi c1_i32_20 v20
  let v38 : BitVec 32 := Scalar.addi v36 v37
  let c1024_i32_21 : BitVec 32 := 1024#32
  let v39 : BitVec 32 := Scalar.muli v38 c1024_i32_21
  let v965 : BitVec 32 := Scalar.addi v39 c256_i32_793
  let c0_i32_795 : BitVec 32 := 0#32
  ![v965.toNat, 0]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Text.lean ====
/- The body of the kernel as loops over chunks: the same memory operations in the same order as the
   printed function, named once per kind of operation. -/
module

public import proofs.«01_k».proof.Proof.Gen.KernelIdeal.Skeleton
public import proofs.«01_k».proof.Proof.Gen.KernelIdeal.Points

@[expose] public section

noncomputable section

namespace Cert.KernelIdeal

open Idealize.ShloMosaic Idealize.ShloMosaic.TcCoe
open Idealize.SL Idealize.SL.Sem
open Cert.KernelIdeal.Gen

variable {F : FTy → Type} [FloatOps F]

/-- The programs the body is made of. -/
abbrev PP (F : FTy → Type) := Prog (TpuEff nD τ sig (Elt F) Λ₀ .tc) PUnit

/-! ## The remote copies -/

/-- The 32 remote copies of a device: the eight chunks of its quarter to its y peer (`y`), the two extra
    chunks (`w`), the eight arrived chunks forwarded to the x peer (`x`) and to the z peer (`z`), the three chunks
    of the z quarter relayed to the x peer (`a`) and the three of the x quarter relayed to the z peer (`b`). -/
inductive Tr where
  | y (k : Fin 8) | w (k : Fin 2) | x (k : Fin 8) | z (k : Fin 8) | a (k : Fin 3) | b (k : Fin 3)
deriving DecidableEq

abbrev yL : List (Fin 8) := [5, 6, 7, 2, 3, 4, 0, 1]
abbrev wL : List (Fin 2) := [0, 1]
abbrev cL : List (Fin 3) := [0, 1, 2]

/-- Every remote copy, in the order their departures are waited for. -/
def trL : List Tr := yL.map .y ++ wL.map .w ++ yL.map .x ++ yL.map .z ++ cL.map .a ++ cL.map .b

theorem mem_yL : ∀ k, k ∈ yL := by decide
theorem mem_wL : ∀ k, k ∈ wL := by decide
theorem mem_cL : ∀ k, k ∈ cL := by decide

theorem mem_trL (t : Tr) : t ∈ trL := by
  unfold trL
  simp only [List.mem_append, List.mem_map]
  cases t with
  | y k => exact .inl (.inl (.inl (.inl (.inl ⟨k, mem_yL k, rfl⟩))))
  | w k => exact .inl (.inl (.inl (.inl (.inr ⟨k, mem_wL k, rfl⟩))))
  | x k => exact .inl (.inl (.inl (.inr ⟨k, mem_yL k, rfl⟩)))
  | z k => exact .inl (.inl (.inr ⟨k, mem_yL k, rfl⟩))
  | a k => exact .inl (.inr ⟨k, mem_cL k, rfl⟩)
  | b k => exact .inr ⟨k, mem_cL k, rfl⟩

instance : Fintype Tr := ⟨trL.toFinset, fun t => List.mem_toFinset.mpr (mem_trL t)⟩

/-- The shape of `R` rows of 1024. -/
abbrev Sh (R : ℕ) : Shape := ⟨2, ![R, 1024]⟩

theorem inbRow {R o h : ℕ} (hh : o + h ≤ R) : ∀ a, (![o, 0] : Fin 2 → ℕ) a + (Sh h).size a ≤ (Sh R).size a :=
  Rect.inb₂ hh (by show 0 + 1024 ≤ 1024; omega)

theorem oIn8 (k : Fin 8) : 128 * k.val + 128 ≤ 1024 := by omega
theorem oIn10 (k : Fin 10) : 128 * k.val + 128 ≤ 1280 := by omega
theorem oIn2 (k : Fin 2) : 128 * k.val + 128 ≤ 256 := by omega
theorem oIn3 (k : Fin 3) : 128 * k.val + 128 ≤ 384 := by omega
theorem oIn8y (k : Fin 8) : 128 * k.val + 128 ≤ 1280 := by omega
theorem oIn2y (k : Fin 2) : 1024 + 128 * k.val + 128 ≤ 1280 := by omega
theorem oIn3z (k : Fin 3) : 256 + 128 * k.val + 128 ≤ 1024 := by omega
theorem oIn3x (k : Fin 3) : 640 + 128 * k.val + 128 ≤ 1024 := by omega

/-- A chunk of 128 rows of a buffer. -/
abbrev chunk {R : ℕ} {e : EltTy} (M : Memref sig .tc .vmem (Sh R) e) (o : ℕ) (hh : o + 128 ≤ R) : Memref sig .tc .vmem S128x1024 e :=
  M.slice (Rect.unit (s := Sh R) ![o, 0] S128x1024.size (inbRow hh)) (fun _ => rfl)

abbrev accM : Memref sig .tc .vmem S4096x1024 .bf16 := Memref.whole cc0_scratch0
abbrev locM : Memref sig .tc .vmem S4096x1024 .f32 := Memref.whole cc0_scratch1
abbrev stgM : Memref sig .tc .vmem S1280x1024 .f32 := Memref.whole cc0_scratch2
abbrev ysM : Memref sig .tc .vmem S1280x1024 .bf16 := Memref.whole cc0_scratch3
abbrev ydM : Memref sig .tc .vmem S1024x1024 .bf16 := Memref.whole cc0_scratch4
abbrev yxM : Memref sig .tc .vmem S256x1024 .bf16 := Memref.whole cc0_scratch5
abbrev xdM : Memref sig .tc .vmem S1024x1024 .bf16 := Memref.whole cc0_scratch6
abbrev zdM : Memref sig .tc .vmem S1024x1024 .bf16 := Memref.whole cc0_scratch7
abbrev daM : Memref sig .tc .vmem S384x1024 .bf16 := Memref.whole cc0_scratch8
abbrev dbM : Memref sig .tc .vmem S384x1024 .bf16 := Memref.whole cc0_scratch9
abbrev inM : Memref sig .tc .hbm S1x4096x2048 .f32 := Memref.whole main_arg0
abbrev outM : Memref sig .tc .hbm S4096x1024 .bf16 := Memref.whole main_v1

/-- What a remote copy reads. -/
def srcM : Tr → Memref sig .tc .vmem S128x1024 .bf16
  | .y k => chunk ysM (128 * k.val) (oIn8y k)
  | .w k => chunk ysM (1024 + 128 * k.val) (oIn2y k)
  | .x k => chunk ydM (128 * k.val) (oIn8 k)
  | .z k => chunk ydM (128 * k.val) (oIn8 k)
  | .a k => chunk zdM (256 + 128 * k.val) (oIn3z k)
  | .b k => chunk xdM (640 + 128 * k.val) (oIn3x k)

/-- What a remote copy writes, on the peer. -/
def dstM : Tr → Memref sig .tc .vmem S128x1024 .bf16
  | .y k => chunk ydM (128 * k.val) (oIn8 k)
  | .w k => chunk yxM (128 * k.val) (oIn2 k)
  | .x k => chunk xdM (128 * k.val) (oIn8 k)
  | .z k => chunk zdM (128 * k.val) (oIn8 k)
  | .a k => chunk daM (128 * k.val) (oIn3 k)
  | .b k => chunk dbM (128 * k.val) (oIn3 k)

theorem ww1280 : ∀ k : Fin 10, (Rect.unit (s := Sh 1280) ![128 * k.val, 0] S128x1024.size (inbRow (oIn10 k))).WholeWords (EltTy.packing .bf16) := by decide
theorem pk1280 : ∀ k : Fin 10, (Rect.unit (s := Sh 1280) ![128 * k.val, 0] S128x1024.size (inbRow (oIn10 k))).PackedRows (EltTy.packing .bf16) := by decide
theorem ww1280y : ∀ k : Fin 8, (Rect.unit (s := Sh 1280) ![128 * k.val, 0] S128x1024.size (inbRow (oIn8y k))).WholeWords (EltTy.packing .bf16) := by decide
theorem ww1280w : ∀ k : Fin 2, (Rect.unit (s := Sh 1280) ![1024 + 128 * k.val, 0] S128x1024.size (inbRow (oIn2y k))).WholeWords (EltTy.packing .bf16) := by decide
theorem ww1024 : ∀ k : Fin 8, (Rect.unit (s := Sh 1024) ![128 * k.val, 0] S128x1024.size (inbRow (oIn8 k))).WholeWords (EltTy.packing .bf16) := by decide
theorem ww1024z : ∀ k : Fin 3, (Rect.unit (s := Sh 1024) ![256 + 128 * k.val, 0] S128x1024.size (inbRow (oIn3z k))).WholeWords (EltTy.packing .bf16) := by decide
theorem ww1024x : ∀ k : Fin 3, (Rect.unit (s := Sh 1024) ![640 + 128 * k.val, 0] S128x1024.size (inbRow (oIn3x k))).WholeWords (EltTy.packing .bf16) := by decide
theorem ww256 : ∀ k : Fin 2, (Rect.unit (s := Sh 256) ![128 * k.val, 0] S128x1024.size (inbRow (oIn2 k))).WholeWords (EltTy.packing .bf16) := by decide
theorem ww384 : ∀ k : Fin 3, (Rect.unit (s := Sh 384) ![128 * k.val, 0] S128x1024.size (inbRow (oIn3 k))).WholeWords (EltTy.packing .bf16) := by decide

theorem srcM_we : ∀ t, (srcM t).view.WordExact
  | .y k => (Memref.isWhole_whole _).wordExact_slice rfl _ (ww1280y k)
  | .w k => (Memref.isWhole_whole _).wordExact_slice rfl _ (ww1280w k)
  | .x k => (Memref.isWhole_whole _).wordExact_slice rfl _ (ww1024 k)
  | .z k => (Memref.isWhole_whole _).wordExact_slice rfl _ (ww1024 k)
  | .a k => (Memref.isWhole_whole _).wordExact_slice rfl _ (ww1024z k)
  | .b k => (Memref.isWhole_whole _).wordExact_slice rfl _ (ww1024x k)

theorem dstM_we : ∀ t, (dstM t).view.WordExact
  | .y k => (Memref.isWhole_whole _).wordExact_slice rfl _ (ww1024 k)
  | .w k => (Memref.isWhole_whole _).wordExact_slice rfl _ (ww256 k)
  | .x k => (Memref.isWhole_whole _).wordExact_slice rfl _ (ww1024 k)
  | .z k => (Memref.isWhole_whole _).wordExact_slice rfl _ (ww1024 k)
  | .a k => (Memref.isWhole_whole _).wordExact_slice rfl _ (ww384 k)
  | .b k => (Memref.isWhole_whole _).wordExact_slice rfl _ (ww384 k)

theorem dstM_nsc : ∀ t, (dstM t).view.ref.isScScratch = false
  | .y _ | .w _ | .x _ | .z _ | .a _ | .b _ => rfl

theorem inbSem {n : ℕ} (k : Fin n) : ∀ a, (![k.val] : Fin 1 → ℕ) a + S1.size a ≤ (⟨1, ![n]⟩ : Shape).size a := by
  intro a; fin_cases a; show k.val + 1 ≤ n; omega

/-- One semaphore of an array. -/
abbrev semAt {n : ℕ} (A : DmaSems sig ⟨1, ![n]⟩) (k : Fin n) : DmaSem sig :=
  ((A.slice (Rect.unit (s := ⟨1, ![n]⟩) ![k.val] S1.size (inbSem k))).squeeze S_ squeezes_S1_S_).sem

/-- The semaphore a remote copy signals on the sender. -/
def sndS : Tr → DmaSem sig
  | .y k => semAt cc0_scratch12 (⟨k.val, by omega⟩ : Fin 10)
  | .w k => semAt cc0_scratch12 (⟨8 + k.val, by omega⟩ : Fin 10)
  | .x k => semAt cc0_scratch14 k
  | .z k => semAt cc0_scratch16 k
  | .a k => semAt cc0_scratch18 k
  | .b k => semAt cc0_scratch20 k

/-- The semaphore a remote copy signals on the peer. -/
def rcvS : Tr → DmaSem sig
  | .y k => semAt cc0_scratch13 (⟨k.val, by omega⟩ : Fin 10)
  | .w k => semAt cc0_scratch13 (⟨8 + k.val, by omega⟩ : Fin 10)
  | .x k => semAt cc0_scratch15 k
  | .z k => semAt cc0_scratch17 k
  | .a k => semAt cc0_scratch19 k
  | .b k => semAt cc0_scratch21 k

/-- The device a remote copy of `d` goes to, as the text computes it. -/
def devW (d : Dev nD) : Tr → Dev nD
  | .y k => (![⟨k0_dev10 d, k0_dev10_lt d⟩, ⟨k0_dev11 d, k0_dev11_lt d⟩, ⟨k0_dev7 d, k0_dev7_lt d⟩, ⟨k0_dev8 d, k0_dev8_lt d⟩,
      ⟨k0_dev9 d, k0_dev9_lt d⟩, ⟨k0_dev4 d, k0_dev4_lt d⟩, ⟨k0_dev5 d, k0_dev5_lt d⟩, ⟨k0_dev6 d, k0_dev6_lt d⟩] : Fin 8 → Dev nD) k
  | .w k => (![⟨k0_dev12 d, k0_dev12_lt d⟩, ⟨k0_dev13 d, k0_dev13_lt d⟩] : Fin 2 → Dev nD) k
  | .x k => (![⟨k0_dev26 d, k0_dev26_lt d⟩, ⟨k0_dev28 d, k0_dev28_lt d⟩, ⟨k0_dev20 d, k0_dev20_lt d⟩, ⟨k0_dev22 d, k0_dev22_lt d⟩,
      ⟨k0_dev24 d, k0_dev24_lt d⟩, ⟨k0_dev14 d, k0_dev14_lt d⟩, ⟨k0_dev16 d, k0_dev16_lt d⟩, ⟨k0_dev18 d, k0_dev18_lt d⟩] : Fin 8 → Dev nD) k
  | .z k => (![⟨k0_dev27 d, k0_dev27_lt d⟩, ⟨k0_dev29 d, k0_dev29_lt d⟩, ⟨k0_dev21 d, k0_dev21_lt d⟩, ⟨k0_dev23 d, k0_dev23_lt d⟩,
      ⟨k0_dev25 d, k0_dev25_lt d⟩, ⟨k0_dev15 d, k0_dev15_lt d⟩, ⟨k0_dev17 d, k0_dev17_lt d⟩, ⟨k0_dev19 d, k0_dev19_lt d⟩] : Fin 8 → Dev nD) k
  | .a k => (![⟨k0_dev33 d, k0_dev33_lt d⟩, ⟨k0_dev34 d, k0_dev34_lt d⟩, ⟨k0_dev35 d, k0_dev35_lt d⟩] : Fin 3 → Dev nD) k
  | .b k => (![⟨k0_dev30 d, k0_dev30_lt d⟩, ⟨k0_dev31 d, k0_dev31_lt d⟩, ⟨k0_dev32 d, k0_dev32_lt d⟩] : Fin 3 → Dev nD) k

/-- The device the `i`-th signal of the barrier goes to. -/
def devB (d : Dev nD) (i : Fin 3) : Dev nD :=
  (![⟨k0_dev1 d, k0_dev1_lt d⟩, ⟨k0_dev2 d, k0_dev2_lt d⟩, ⟨k0_dev3 d, k0_dev3_lt d⟩] : Fin 3 → Dev nD) i

/-! ## The steps -/

/-- The barrier's semaphore. -/
abbrev barS : Sem sig := (SemArray.scalar (sig.barrier 0 rfl) : Sems sig S_).sem

def sigStep (d : Dev nD) (i : Fin 3) (k : PP F) : PP F :=
  .op (.semSignal (devB d i, .tc) barS (1#32 : BitVec 32).toInt) fun _ => k

def sendStep (d : Dev nD) (t : Tr) (k : PP F) : PP F :=
  .op (.enqueueDma (srcM t) (.remote (Dev.tc (devW d t)) (dstM t) (.dma (sndS t)) (dstM_nsc t)) (.dma (rcvS t)) (srcM_we t) (dstM_we t)
    ⟨⟨rfl, Or.inl rfl⟩, trivial⟩) fun _ => k

/-- The wait for a remote copy's arrival. -/
def rcvStep (t : Tr) (k : PP F) : PP F :=
  .op (.waitDma2 (rcvS t) (srcM t) (dstM t) (srcM_we t) (dstM_we t)) fun _ => k

/-- The wait for a remote copy's departure. -/
def sndStep (t : Tr) (k : PP F) : PP F :=
  .op (.waitDma2 (sndS t) (dstM t) (srcM t) (dstM_we t) (srcM_we t)) fun _ => k

/-- Where the window of the argument copied to stage chunk `k` starts. -/
def stOff (d : Dev nD) (k : Fin 10) : Fin 3 → ℕ :=
  if k.val < 8 then k0_off1 d (BitVec.ofNat 32 (128 * k.val)) else k0_off2 d (BitVec.ofNat 32 (128 * (k.val - 8)))

theorem stOff_inb : ∀ (d : Dev nD) (k : Fin 10) a, stOff d k a + S1x128x1024.size a ≤ S1x4096x2048.size a := by decide +kernel

abbrev stSrc (d : Dev nD) (k : Fin 10) : Memref sig .tc .hbm S128x1024 .f32 :=
  (inM.slice (Rect.unit (s := S1x4096x2048) (stOff d k) S1x128x1024.size (stOff_inb d k)) (fun _ => rfl)).squeeze S128x1024 squeezes_S1x128x1024_S128x1024

abbrev stDst (k : Fin 10) : Memref sig .tc .vmem S128x1024 .f32 := chunk stgM (128 * k.val) (oIn10 k)

abbrev stS (k : Fin 10) : DmaSem sig := semAt cc0_scratch11 k

def stStart (d : Dev nD) (k : Fin 10) (kk : PP F) : PP F :=
  .op (.enqueueDma (stSrc d k) (.here (stDst k)) (.dma (stS k)) ((View.wordExact_bits rfl).reshape _ _) (View.wordExact_bits rfl) ⟨Or.inl rfl, trivial⟩)
    fun _ => kk

abbrev loSrc (d : Dev nD) : Memref sig .tc .hbm S4096x1024 .f32 :=
  (inM.slice (Rect.unit (s := S1x4096x2048) (k0_off3 d) S1x4096x1024.size (k0_off3_inb d)) (fun _ => rfl)).squeeze S4096x1024 squeezes_S1x4096x1024_S4096x1024

abbrev loS : DmaSem sig := (cc0_scratch10 : DmaSems sig S_).sem

def loStart (d : Dev nD) (kk : PP F) : PP F :=
  .op (.enqueueDma (loSrc d) (.here locM) (.dma loS) ((View.wordExact_bits rfl).reshape _ _) (Memref.isWhole_whole _).wordExact ⟨Or.inl rfl, trivial⟩)
    fun _ => kk

def loWait (d : Dev nD) (kk : PP F) : PP F :=
  .op (.waitDma2 loS (loSrc d) locM ((View.wordExact_bits rfl).reshape _ _) (Memref.isWhole_whole _).wordExact) fun _ => kk

abbrev ysR (k : Fin 10) : Rect (Sh 1280) := Rect.unit (s := Sh 1280) ![128 * k.val, 0] S128x1024.size (inbRow (oIn10 k))

/-- Stage chunk `k` waited for, rounded into the send buffer. -/
def cvtStep (d : Dev nD) (k : Fin 10) (kk : PP F) : PP F :=
  .op (.waitDma2 (stS k) (stSrc d k) (stDst k) ((View.wordExact_bits rfl).reshape _ _) (View.wordExact_bits rfl)) fun _ =>
  .op (.load stgM (ysR k).toLoadRect (View.loadsAt_vmem h_S128x1024)) fun v =>
  .op (.load ysM (ysR k).toLoadRect (View.loadsAt_vmem h_S128x1024)) fun _ =>
  .op (.store ysM (ysR k) (k0_pay1 v) Finset.univ
    (View.stores_vmem h_S128x1024 ((Memref.isWhole_whole _).storeExact_slice rfl _ (pk1280 k)) (fun _ => rfl)) (.inl rfl)) fun _ => kk

/-! ## The six blocks of the result -/

/-- What one block of the result is made with: its number of rows, where its rows start for the loads and for the copy out,
    the arrived rows it adds, and the semaphore of the copy out. -/
structure Blk where
  h : ℕ
  off : Fin 2 → ℕ
  off' : Fin 2 → ℕ
  rcv : Memref sig .tc .vmem (Sh h) .bf16
  s : DmaSem sig
  pos : 0 < (Sh h).numel
  inb : ∀ a, off a + (Sh h).size a ≤ S4096x1024.size a
  inb' : ∀ a, off' a + (Sh h).size a ≤ S4096x1024.size a
  inb0 : ∀ a, (![0, 0] : Fin 2 → ℕ) a + (Sh h).size a ≤ (Sh h).size a
  pk : (Rect.unit (s := S4096x1024) off (Sh h).size inb).PackedRows (EltTy.packing .bf16)
  ww : (Rect.unit (s := S4096x1024) off' (Sh h).size inb').WholeWords (EltTy.packing .bf16)
  sc : (Sh h).ShapeCasts (Sh h)

/-- What a block of the result holds: the device's own rows plus the arrived ones, rounded. -/
def addPay {h : ℕ} (sc : (Sh h).ShapeCasts (Sh h)) (v : Vec F (Sh h) .f32) (w : Vec F (Sh h) .bf16) : FVec F (Sh h) .bf16 :=
  shapeCast (Sh h) (truncf .bf16 (addf (show FVec F (Sh h) .f32 from v) (extf .f32 w bitsLt_bf16_f32)) bitsLt_bf16_f32) sc

def blk (d : Dev nD) : Fin 6 → Blk
  | 0 => ⟨1024, k0_off4 d, k0_off5 d, ydM, semAt cc0_scratch22 (0 : Fin 6), h_S1024x1024, k0_off4_inb d, k0_off5_inb d, inb_S1024x1024_S1024x1024_0_0, k0_off4_packedbf16 d, k0_off5_wordsbf16 d, shapeCasts_S1024x1024_S1024x1024⟩
  | 1 => ⟨1024, k0_off6 d, k0_off7 d, xdM, semAt cc0_scratch22 (1 : Fin 6), h_S1024x1024, k0_off6_inb d, k0_off7_inb d, inb_S1024x1024_S1024x1024_0_0, k0_off6_packedbf16 d, k0_off7_wordsbf16 d, shapeCasts_S1024x1024_S1024x1024⟩
  | 2 => ⟨1024, k0_off8 d, k0_off9 d, zdM, semAt cc0_scratch22 (2 : Fin 6), h_S1024x1024, k0_off8_inb d, k0_off9_inb d, inb_S1024x1024_S1024x1024_0_0, k0_off8_packedbf16 d, k0_off9_wordsbf16 d, shapeCasts_S1024x1024_S1024x1024⟩
  | 3 => ⟨256, k0_off10 d, k0_off11 d, yxM, semAt cc0_scratch22 (3 : Fin 6), h_S256x1024, k0_off10_inb d, k0_off11_inb d, inb_S256x1024_S256x1024_0_0, k0_off10_packedbf16 d, k0_off11_wordsbf16 d, shapeCasts_S256x1024_S256x1024⟩
  | 4 => ⟨384, k0_off12 d 256#32, k0_off13 d 256#32, daM, semAt cc0_scratch22 (4 : Fin 6), h_S384x1024, k0_off12_inb d 0, k0_off13_inb d 0, inb_S384x1024_S384x1024_0_0, k0_off12_packedbf16 d 0, k0_off13_wordsbf16 d 0, shapeCasts_S384x1024_S384x1024⟩
  | 5 => ⟨384, k0_off12 d 640#32, k0_off13 d 640#32, dbM, semAt cc0_scratch22 (5 : Fin 6), h_S384x1024, k0_off12_inb d 1, k0_off13_inb d 1, inb_S384x1024_S384x1024_0_0, k0_off12_packedbf16 d 1, k0_off13_wordsbf16 d 1, shapeCasts_S384x1024_S384x1024⟩

abbrev Blk.rect (B : Blk) : Rect S4096x1024 := Rect.unit (s := S4096x1024) B.off (Sh B.h).size B.inb
abbrev Blk.rect' (B : Blk) : Rect S4096x1024 := Rect.unit (s := S4096x1024) B.off' (Sh B.h).size B.inb'
abbrev Blk.src (B : Blk) : Memref sig .tc .vmem (Sh B.h) .bf16 := accM.slice B.rect' (fun _ => rfl)
abbrev Blk.dst (B : Blk) : Memref sig .tc .hbm (Sh B.h) .bf16 := outM.slice B.rect' (fun _ => rfl)

def addStep (B : Blk) (kk : PP F) : PP F :=
  .op (.load locM B.rect.toLoadRect (View.loadsAt_vmem B.pos)) fun v =>
  .op (.load B.rcv (Rect.unit (s := Sh B.h) ![0, 0] (Sh B.h).size B.inb0).toLoadRect (View.loadsAt_vmem B.pos)) fun w =>
  .op (.load accM B.rect.toLoadRect (View.loadsAt_vmem B.pos)) fun _ =>
  .op (.store accM B.rect (addPay B.sc v w) Finset.univ
    (View.stores_vmem B.pos ((Memref.isWhole_whole _).storeExact_slice rfl _ B.pk) (fun _ => rfl)) (.inl rfl)) fun _ =>
  .op (.enqueueDma B.src (.here B.dst) (.dma B.s) ((Memref.isWhole_whole _).wordExact_slice rfl _ B.ww) ((Memref.isWhole_whole _).wordExact_slice rfl _ B.ww)
    ⟨Or.inl rfl, trivial⟩) fun _ => kk

/-- The wait for a block's copy out. -/
def outStep (B : Blk) (kk : PP F) : PP F :=
  .op (.waitDma2 B.s B.src B.dst ((Memref.isWhole_whole _).wordExact_slice rfl _ B.ww) ((Memref.isWhole_whole _).wordExact_slice rfl _ B.ww)) fun _ => kk

/-! ## The body -/

/-- A loop: `f` for each index of the list in order, then `k`. -/
def each {ι : Type} (l : List ι) (f : ι → PP F → PP F) (k : PP F) : PP F := l.foldr f k

abbrev sL : List (Fin 10) := [5, 6, 7, 2, 3, 4, 0, 1, 8, 9]
abbrev oL : List (Fin 6) := [0, 1, 2, 3, 4, 5]
abbrev xL : List (Fin 8) := [0, 1, 2, 3, 4]
abbrev zL : List (Fin 8) := [0, 1, 5, 6, 7]

/-- The last part: every departure waited for, then every copy out. -/
def tail (d : Dev nD) : PP F :=
  each yL (fun k => sndStep (.y k)) <| each wL (fun k => sndStep (.w k)) <|
  each yL (fun k => sndStep (.x k)) <| each yL (fun k => sndStep (.z k)) <|
  each cL (fun k => sndStep (.a k)) <| each cL (fun k => sndStep (.b k)) <|
  each oL (fun b => outStep (blk d b)) <| .ret ⟨⟩

/-- The additions, each behind the arrivals it needs. -/
def adds (d : Dev nD) (kk : PP F) : PP F :=
  loWait d <| addStep (blk d 0) <|
  each xL (fun k => rcvStep (.x k)) <| addStep (blk d 1) <|
  each zL (fun k => rcvStep (.z k)) <| addStep (blk d 2) <|
  each wL (fun k => rcvStep (.w k)) <| addStep (blk d 3) <|
  each cL (fun k => rcvStep (.a k)) <| addStep (blk d 4) <|
  each cL (fun k => rcvStep (.b k)) <| addStep (blk d 5) <| kk

/-- The forwards and relays. -/
def fwds (d : Dev nD) (kk : PP F) : PP F :=
  each yL (fun k q => rcvStep (.y k) <| sendStep d (.x k) <| sendStep d (.z k) q) <|
  each cL (fun i q => rcvStep (.x ⟨5 + i.val, by omega⟩) <| sendStep d (.b i) q) <|
  each cL (fun i q => rcvStep (.z ⟨2 + i.val, by omega⟩) <| sendStep d (.a i) q) kk

/-- The head: the barrier, the copies in, the sends to the y peer. -/
def head (d : Dev nD) (kk : PP F) : PP F :=
  each cL (sigStep d) <| .op (.semWait barS (3#32 : BitVec 32).toInt) fun _ =>
  each sL (stStart d) <| loStart d <|
  each yL (fun k q => cvtStep d ⟨k.val, by omega⟩ <| sendStep d (.y k) q) <|
  each wL (fun k q => cvtStep d ⟨8 + k.val, by omega⟩ <| sendStep d (.w k) q) kk

def body (d : Dev nD) : PP F := head d <| fwds d <| adds d <| tail d

set_option maxRecDepth 65536 in
/-- The printed body is this one. -/
theorem body_eq (t : Fin cfg0.N) : (bodyAt0 t : PP F) = .op .deviceId fun d => body d := rfl

end Cert.KernelIdeal

end
-- ==== Proof.Sched.lean ====
/- Which semaphores the devices share, what each of them hands over, and how the devices are joined. Every semaphore is
   used for one round: the barrier is signalled once by each of the three neighbours, every other semaphore by one copy. -/
module

public import proofs.«01_k».proof.Proof.Text
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The neighbours -/

/-- The device across the mesh's axis `i`: `y`, `x`, `z` (within its pair) for 0, 1, 2. -/
def nb (i : Fin 3) (c : Dev nD) : Dev nD := ⟨c.val ^^^ (![4, 8, 1] : Fin 3 → ℕ) i, by revert c i; decide⟩

theorem nb_nb : ∀ (i : Fin 3) (c : Dev nD), nb i (nb i c) = c := by decide

def nbE (i : Fin 3) : Dev nD ≃ Dev nD := ⟨nb i, nb i, nb_nb i, nb_nb i⟩

/-- The axis a remote copy goes along. -/
def dir : Tr → Fin 3
  | .y _ | .w _ => 0
  | .x _ | .a _ => 1
  | .z _ | .b _ => 2

/-- The remote copies along an axis. -/
def dirL : Fin 3 → List Tr
  | 0 => yL.map .y ++ wL.map .w
  | 1 => yL.map .x ++ cL.map .a
  | 2 => yL.map .z ++ cL.map .b

abbrev peer (t : Tr) (c : Dev nD) : Dev nD := nb (dir t) c

theorem devW_eq : ∀ d t, devW d t = peer t d := by decide +kernel
theorem devB_eq : ∀ d i, devB d i = nb i d := by decide +kernel

/-! ## The semaphores -/

/-- The semaphores of a device: the barrier, the copy of its own half in, the ten copies to the stage buffer, each
    remote copy's departure and arrival, the six copies out. -/
inductive Ck where
  | bar | loc | st (k : Fin 10) | snd (t : Tr) | rcv (t : Tr) | oc (b : Fin 6)
deriving DecidableEq

def osL : List Ck := .loc :: (sL.map .st ++ (trL.map .snd ++ (trL.map .rcv ++ oL.map .oc)))
def ckL : List Ck := .bar :: osL

theorem mem_sL : ∀ k, k ∈ sL := by decide
theorem mem_oL : ∀ k, k ∈ oL := by decide

theorem mem_ckL (κ : Ck) : κ ∈ ckL := by
  refine match κ with
    | .bar => List.mem_cons_self
    | .loc => List.mem_cons_of_mem _ List.mem_cons_self
    | .st k => List.mem_cons_of_mem _ (List.mem_cons_of_mem _ (List.mem_append_left _ (List.mem_map_of_mem (mem_sL k))))
    | .snd t => List.mem_cons_of_mem _ (List.mem_cons_of_mem _ (List.mem_append_right _ (List.mem_append_left _ (List.mem_map_of_mem (mem_trL t)))))
    | .rcv t => List.mem_cons_of_mem _ (List.mem_cons_of_mem _ (List.mem_append_right _ (List.mem_append_right _
        (List.mem_append_left _ (List.mem_map_of_mem (mem_trL t))))))
    | .oc b => List.mem_cons_of_mem _ (List.mem_cons_of_mem _ (List.mem_append_right _ (List.mem_append_right _
        (List.mem_append_right _ (List.mem_map_of_mem (mem_oL b))))))

instance : Fintype Ck := ⟨ckL.toFinset, fun t => List.mem_toFinset.mpr (mem_ckL t)⟩

theorem nodup_ckL : ckL.Nodup := by decide +kernel
theorem nodup_trL : trL.Nodup := by decide +kernel

abbrev ocS (b : Fin 6) : DmaSem sig := semAt cc0_scratch22 b

theorem blk_s (d : Dev nD) (b : Fin 6) : (blk d b).s = ocS b := by
  fin_cases b <;> rfl

def csem : Ck → SemLoc sig
  | .bar => .reg barS
  | .loc => .dma loS
  | .st k => .dma (stS k)
  | .snd t => .dma (sndS t)
  | .rcv t => .dma (rcvS t)
  | .oc b => .dma (ocS b)

/-- A number for each semaphore, different for different ones. -/
def cnum : SemLoc sig → ℕ
  | .reg s => 1000 + s.val
  | .dma s => s.val

theorem csem_inj : Function.Injective csem := by
  have h : ∀ κ κ' : Ck, cnum (csem κ) = cnum (csem κ') → κ = κ' := by decide +kernel
  exact fun κ κ' e => h κ κ' (congrArg cnum e)

abbrev cell (c : Dev nD) (κ : Ck) : GSem nD τ sig := ((c : Thread nD τ), csem κ)

/-- Which of them a semaphore is. -/
def dec (s : SemLoc sig) : Option Ck := Finset.univ.toList.find? fun κ => csem κ = s

theorem dec_csem (κ : Ck) : dec (csem κ) = some κ := by
  unfold dec
  cases h : Finset.univ.toList.find? fun κ' => csem κ' = csem κ with
  | none => exact absurd (List.find?_eq_none.mp h κ (Finset.mem_toList.mpr (Finset.mem_univ κ))) (by simp)
  | some κ' => have := List.find?_some h; rw [csem_inj (of_decide_eq_true this)]

/-! ## What the buffers hold -/

/-- The argument of a device. -/
def argV (c : Dev nD) : (main_arg0 : Ref sig .tc).ty.Contents (Elt F) := m ((c : Thread nD τ).loc main_arg0)

/-- The window of the argument copied to stage chunk `k`. -/
def stV (c : Dev nD) (k : Fin 10) : Vec F S128x1024 .f32 := (stSrc c k).view.read (Elt F) (argV m c)

/-- The device's own half of the columns. -/
def loV (c : Dev nD) : Vec F S4096x1024 .f32 := (loSrc c).view.read (Elt F) (argV m c)

/-- Chunk `k` of the send buffer. -/
def ysV (c : Dev nD) (k : Fin 10) : Vec F S128x1024 .bf16 := k0_pay1 (stV m c k)

/-- What a remote copy brings to device `c`. -/
def tv (c : Dev nD) : Tr → Vec F S128x1024 .bf16
  | .y k => ysV m (nb 0 c) ⟨k.val, by omega⟩
  | .w k => ysV m (nb 0 c) ⟨8 + k.val, by omega⟩
  | .x k => ysV m (nb 0 (nb 1 c)) ⟨k.val, by omega⟩
  | .z k => ysV m (nb 0 (nb 2 c)) ⟨k.val, by omega⟩
  | .a k => ysV m (nb 0 (nb 2 (nb 1 c))) ⟨2 + k.val, by omega⟩
  | .b k => ysV m (nb 0 (nb 1 (nb 2 c))) ⟨5 + k.val, by omega⟩

/-- Chunks of 128 rows put one below the other. -/
def glue {n R : ℕ} {α : Type} (hR : R = 128 * n) (g : Fin n → S128x1024.Idx → α) : (Sh R).Idx → α := fun i =>
  g ⟨(i 0).val / 128, by have : (i 0).val < R := (i 0).isLt; omega⟩
    (fun a => match a with
      | ⟨0, _⟩ => (⟨(i 0).val % 128, Nat.mod_lt _ (by decide)⟩ : Fin 128)
      | ⟨1, _⟩ => (i 1 : Fin 1024))

/-- The arrived rows block `b` adds. -/
def rcvV (c : Dev nD) : (b : Fin 6) → Vec F (Sh (blk c b).h) .bf16
  | 0 => (glue rfl fun k : Fin 8 => tv m c (.y k) : (Sh 1024).Idx → Elt F .bf16)
  | 1 => (glue rfl fun k : Fin 8 => tv m c (.x k) : (Sh 1024).Idx → Elt F .bf16)
  | 2 => (glue rfl fun k : Fin 8 => tv m c (.z k) : (Sh 1024).Idx → Elt F .bf16)
  | 3 => (glue rfl fun k : Fin 2 => tv m c (.w k) : (Sh 256).Idx → Elt F .bf16)
  | 4 => (glue rfl fun k : Fin 3 => tv m c (.a k) : (Sh 384).Idx → Elt F .bf16)
  | 5 => (glue rfl fun k : Fin 3 => tv m c (.b k) : (Sh 384).Idx → Elt F .bf16)

/-- Block `b` of the result. -/
def blkV (c : Dev nD) (b : Fin 6) : Vec F (Sh (blk c b).h) .bf16 :=
  addPay (blk c b).sc (locM.view.readAt (Elt F) (blk c b).rect.toLoadRect (loV m c)) (rcvV m c b)

/-! ## What is handed over -/

/-- A memref held outright, whatever it holds. -/
def anyOf (c : Dev nD) {sp : Space} {s : Shape} {e : EltTy} (M : Memref sig .tc sp s e) (q : PosShare TreeShare) : sProp 𝕄 :=
  iprop(∃ v, ownsTc (Val := Elt F) c M q v)

instance anyOf_storable (c : Dev nD) {sp : Space} {s : Shape} {e : EltTy} (M : Memref sig .tc sp s e) (q : PosShare TreeShare) :
    BI.Storable (upEmb : UEmb _ 𝕄) (anyOf (F := F) c M q) := by unfold anyOf; infer_instance

/-- The share of its source a remote copy carries: of a chunk that is also forwarded or read meanwhile, a part. -/
def shr : Tr → PosShare TreeShare
  | .y _ | .w _ => fullShare
  | .x _ | .a _ | .b _ => fullShare.left
  | .z _ => fullShare.right.left

def pay (c : Dev nD) : Ck → Fin 3 → sProp 𝕄
  | .bar, i => bigSepL (dirL i) fun t => anyOf (F := F) (nb i c) (dstM t) fullShare
  | .loc, _ => ownsTc c locM fullShare (loV m c)
  | .st k, _ => ownsTc c (stDst k) fullShare (stV m c k)
  | .snd t, _ => ownsTc c (srcM t) (shr t) (tv m (peer t c) t)
  | .rcv t, _ => ownsTc c (dstM t) fullShare (tv m c t)
  | .oc b, _ => iprop(ownsTc c (blk c b).dst fullShare (blkV m c b) ∗ ownsTc c (blk c b).src fullShare (blkV m c b))

/-- What one signal or copy adds to a semaphore. -/
def amt : Ck → ℕ
  | .bar => 1
  | .loc => locM.view.dmaCredit
  | .st k => (stDst k).view.dmaCredit
  | .snd t => (srcM t).view.dmaCredit
  | .rcv t => (dstM t).view.dmaCredit
  | .oc b => (blk 0 b).dst.view.dmaCredit

theorem amt_pos (κ : Ck) : 0 < amt κ := by
  cases κ with
  | bar => exact Nat.one_pos
  | oc b => exact View.dmaCredit_pos _ (blk 0 b).pos
  | _ => exact View.dmaCredit_pos _ (by decide)

/-- The duties of a semaphore: three neighbours' signals, or one copy. -/
def dutS : Ck → Finset (Fin 3)
  | .bar => Finset.univ
  | _ => {0}

instance storable_bigSepL {ι : Type} (l : List ι) (Φ : ι → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

instance pay_storable (c : Dev nD) (κ : Ck) (d : Fin 3) : BI.Storable (upEmb : UEmb _ 𝕄) (pay m c κ d) := by
  unfold pay; split <;> infer_instance

/-- The schedule: one round. -/
def rd : Rounds.Schedule (GSem nD τ sig) (Fin 3) 𝕄 where
  duties g r := if r = 0 ∧ g.1.2 = .tc then (match dec g.2 with | some κ => dutS κ | none => ∅) else ∅
  unitless _ := False
  amount g _ _ := match dec g.2 with | some κ => amt κ | none => 1
  payload g _ d := match dec g.2 with | some κ => pay m g.1.1 κ d | none => iprop(emp)
  amount_pos g _ _ _ := by split; exacts [amt_pos _, Nat.one_pos]

instance rd_storable (g : GSem nD τ sig) (r : ℕ) (d : Fin 3) : BI.Storable (upEmb : UEmb _ 𝕄) ((rd (F := F) m).payload g r d) := by
  dsimp only [rd]; split <;> infer_instance

section
variable (c : Dev nD) (κ : Ck)

theorem duties_cell : (rd (F := F) m).duties (cell c κ) 0 = dutS κ := by
  dsimp only [rd]; rw [if_pos ⟨rfl, rfl⟩, dec_csem]

theorem duties_later (g : GSem nD τ sig) : ∀ r, 1 ≤ r → (rd (F := F) m).duties g r = ∅ :=
  fun r hr => by dsimp only [rd]; exact if_neg fun h => by omega

theorem amount_cell (d : Fin 3) : (rd (F := F) m).amount (cell c κ) 0 d = amt κ := by
  dsimp only [rd]; rw [dec_csem]

theorem payload_cell (d : Fin 3) : (rd (F := F) m).payload (cell c κ) 0 d = pay m c κ d := by
  dsimp only [rd]; rw [dec_csem]

/-- What a wait takes off a semaphore: everything it is given. -/
def tot : Ck → ℕ
  | .bar => 3
  | κ => amt κ

theorem expect_cell : (rd (F := F) m).expect (cell c κ) 0 = tot κ := by
  unfold Schedule.expect Schedule.amountOf
  rw [duties_cell, Finset.sum_congr rfl fun d _ => amount_cell m c κ d, Finset.sum_const]
  cases κ <;> first | rfl | exact one_mul _

/-- What a wait brings. -/
def got (c : Dev nD) : Ck → sProp 𝕄
  | .bar => bigSepL cL fun i => pay m c .bar i
  | κ => pay m c κ 0

theorem rest_cell : bigSep ((rd (F := F) m).duties (cell c κ) 0 \ ∅) (fun d => (rd (F := F) m).payload (cell c κ) 0 d) = got m c κ := by
  rw [Finset.sdiff_empty, duties_cell, bigSep_congr (fun d _ => payload_cell m c κ d)]
  cases κ with
  | bar => exact bigSep_univ_eq_bigSepL cL (by decide) (by decide) _
  | _ => exact bigSep_singleton

end

/-! ## Levels -/

def klev : Ck → ℕ
  | .bar => 1
  | .rcv (.y _) | .rcv (.w _) => 2
  | .rcv (.x _) | .rcv (.z _) => 3
  | .rcv (.a _) | .rcv (.b _) => 4
  | _ => 0

def L (g : GSem nD τ sig) : Finset Unit := if g.1.2 = .tc then {()} else ∅
def lv (g : GSem nD τ sig) (_ : Unit) : ℕ := match dec g.2 with | some κ => klev κ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Ck) : lv (cell c κ) () = klev κ := by dsimp only [lv]; rw [dec_csem]

/-- What a device owes: units of semaphores of other devices, as a list. -/
abbrev Due := List (Dev nD × Ck)

def owed : Due → CellTallies nD τ sig Unit
  | [] => 0
  | p :: ps => owed ps + tallyAt (cell p.1 p.2) () (amt p.2)

theorem owed_pos (ps : Due) (g : GSem nD τ sig) (u : Unit) (h : 0 < owed ps g u) : ∃ p ∈ ps, g = cell p.1 p.2 := by
  induction ps with
  | nil => exact absurd h (Nat.lt_irrefl 0)
  | cons p ps ih =>
    rw [owed, Pi.add_apply, Finsupp.add_apply, tallyAt_apply] at h
    by_cases hg : g = cell p.1 p.2 ∧ u = ()
    · exact ⟨p, List.mem_cons_self, hg.1⟩
    · rw [if_neg hg] at h
      obtain ⟨q, hq, e⟩ := ih h
      exact ⟨q, List.mem_cons_of_mem _ hq, e⟩

/-- A wait is safe while everything owed is of a higher level. -/
theorem mayWait (c : Dev nD) (κ : Ck) (ps : Due) (h : ∀ p ∈ ps, klev κ < klev p.2) :
    (levAts L lv : sProp 𝕄) ⊢ MayWait (c : Thread nD τ) (csem κ) () (owed ps) :=
  MayOwe.of_cut (L := L) (lev := lv) (klev κ) (fun p hp => by rw [Finset.mem_singleton.mp hp, L_tc]; exact Finset.mem_singleton_self _)
    (fun g u hg => by obtain ⟨p, _, rfl⟩ := owed_pos ps g u hg; rw [L_tc]; exact Finset.mem_singleton_self _)
    (fun p hp => by rw [Finset.mem_singleton.mp hp]; exact (lv_cell c κ).le)
    (fun g u hg => by obtain ⟨p, hp, rfl⟩ := owed_pos ps g u hg; exact (lv_cell p.1 p.2).symm ▸ h p hp)

end Cert.KernelIdeal

end
-- ==== Proof.Steps.lean ====
/- One rule for each kind of step of the body, for any of its semaphores, chunks or blocks, and the rule of a loop. -/
module

public import proofs.«01_k».proof.Proof.Sched

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

abbrev 𝒱₀ : Variants := Variants.none

/-- The facts every device keeps: each semaphore's invariant, that its round is open, and the levels. -/
def facts (K : Dev nD × Ck → ℕ) : sProp 𝕄 :=
  iprop((bigSep Finset.univ fun p : Dev nD × Ck => cellInv ER (rd m) (K p) (cell p.1 p.2))
    ∗ (bigSep Finset.univ fun p : Dev nD × Ck => reached ER (cell p.1 p.2) 0) ∗ levAts L lv)

instance facts_persistent : BI.Persistent (facts m K) := by unfold facts; infer_instance

theorem inv_at (c : Dev nD) (κ : Ck) : facts m K ⊢ cellInv ER (rd m) (K (c, κ)) (cell c κ) := by
  unfold facts
  iintro ⟨H, -⟩
  iapply (show (bigSep Finset.univ fun p : Dev nD × Ck => (cellInv ER (rd m) (K p) (cell p.1 p.2) : sProp 𝕄)) ⊢ cellInv ER (rd m) (K (c, κ)) (cell c κ) from
    bigSep_elim (Finset.mem_univ (c, κ)))
  iexact H

theorem reached_at (c : Dev nD) (κ : Ck) : facts m K ⊢ reached ER (cell c κ) 0 := by
  unfold facts
  iintro ⟨-, H, -⟩
  iapply (show (bigSep Finset.univ fun p : Dev nD × Ck => (reached ER (cell p.1 p.2) 0 : sProp 𝕄)) ⊢ reached ER (cell c κ) 0 from
    bigSep_elim (Finset.mem_univ (c, κ)))
  iexact H

theorem facts_lev : facts m K ⊢ (levAts L lv : sProp 𝕄) := by
  unfold facts
  iintro ⟨-, -, H⟩
  iexact H

theorem facts_wait (c : Dev nD) (κ : Ck) (ps : Due) (hps : ∀ p ∈ ps, klev κ < klev p.2) :
    facts m K ⊢ MayWait (c : Thread nD τ) (csem κ) () (owed ps) := by
  have h : facts m K ⊢ (levAts L lv : sProp 𝕄) := @facts_lev F _ m K
  exact h.trans (mayWait c κ ps hps)

/-- What a device owes, whatever it has waited for. -/
def ow (c : Dev nD) (ps : Due) : sProp 𝕄 := iprop(∃ W, owes (c : Thread nD τ) (owed ps) W)

/-- The position of a device at a semaphore of its own not yet waited for. -/
abbrev pos (c : Dev nD) (κ : Ck) : sProp 𝕄 := atPos ER (cell c κ) 0 ∅ 0
/-- What a wait for all of a semaphore spends. -/
abbrev crd (c : Dev nD) (κ : Ck) : sProp 𝕄 := cred (tallyAt (cell c κ) () (tot κ))
/-- The right to give a semaphore its one copy. -/
abbrev tok (c : Dev nD) (κ : Ck) : sProp 𝕄 := dutyTok ER (cell c κ) 0 0
/-- A semaphore at zero, done with. -/
abbrev zero (c : Dev nD) (κ : Ck) : sProp 𝕄 := semVal (cell c κ) 0

abbrev WP (c : Dev nD) (k : PP F) (Q : PUnit → sProp 𝕄) : sProp 𝕄 := wp frame (wpE (defs₀ (F := F)) 𝒱₀ (c : Thread nD τ) none) Set.univ k Q

/-! ## Loops -/

/-- A loop, by what one index needs and leaves and what is kept between. -/
theorem wp_each {ι : Type} (c : Dev nD) (Q : PUnit → sProp 𝕄) (C : sProp 𝕄) [BI.Persistent C] (f : ι → PP F → PP F) (Pre Post : ι → sProp 𝕄)
    (I : List ι → sProp 𝕄) (l : List ι)
    (h : ∀ i ∈ l, ∀ l' kk, iprop(C ∗ Pre i ∗ I (i :: l')) ⊢ iprop((iprop(Post i ∗ I l') -∗ WP c kk Q) -∗ WP c (f i kk) Q)) (kk : PP F) :
    iprop(C ∗ bigSepL l Pre ∗ I l) ⊢ iprop((iprop(bigSepL l Post ∗ I []) -∗ WP c kk Q) -∗ WP c (each l f kk) Q) := by
  induction l with
  | nil =>
    iintro ⟨-, -, HI⟩ Hk
    iapply Hk
    isplitr; · rw [bigSepL_nil]; iempintro
    iexact HI
  | cons i l ih =>
    rw [bigSepL_cons', bigSepL_cons', show each (i :: l) f kk = f i (each l f kk) from rfl]
    iintro ⟨#HC, ⟨Hi, Hl⟩, HI⟩ Hk
    iapply (h i List.mem_cons_self l (each l f kk)) $$ [Hi HI]
    · isplitr; · iexact HC
      isplitl [Hi] <;> iassumption
    iintro ⟨Hp, HI⟩
    iapply (ih fun j hj => h j (List.mem_cons_of_mem _ hj)) $$ [Hl HI]
    · isplitr; · iexact HC
      isplitl [Hl] <;> iassumption
    iintro ⟨Hps, HI⟩
    iapply Hk
    isplitr [HI]
    · isplitl [Hp] <;> iassumption
    iexact HI

/-! ## Waits -/

/-- A wait for all of a semaphore brings what was handed over and closes it. -/
theorem wp_wait (c : Dev nD) (Q : PUnit → sProp 𝕄) (κ : Ck) (ps : Due) (hps : ∀ p ∈ ps, klev κ < klev p.2)
    {w : TpuEff nD τ sig (Elt F) Λ₀ .tc PUnit} {sm : SemLoc sig} {n : ℕ}
    (hw : ∀ Kt : PUnit → sProp 𝕄, wpE (defs₀ (F := F)) 𝒱₀ (c : Thread nD τ) none Set.univ w Kt = waitSpec (c : Thread nD τ) Set.univ sm n Kt)
    (hs : sm = csem κ) (hn : n = tot κ) (k : PUnit → PP F) :
    iprop(facts m K ∗ pos c κ ∗ crd c κ ∗ ow c ps)
      ⊢ iprop((iprop(got m c κ ∗ zero c κ ∗ ow c ps) -∗ WP c (k ⟨⟩) Q) -∗ WP c (.op w k) Q) := by
  subst hs hn
  have hmw := facts_wait m K c κ ps hps
  unfold ow
  iintro ⟨#HF, Hat, Hc, ⟨%W, HO⟩⟩ Hk
  iapply (Rounds.wp_wait_rest_token 𝒱₀ ER (rd m) (c : Thread nD τ) none (w := w) (sm := csem κ) (k' := tot κ) (k := k) (κ := K (c, κ)) hw (Set.mem_univ _) () (O := owed ps) (W := W)
      (R := 0) (m := 0) (T := ∅) (by rw [Nat.zero_add, expect_cell])) $$ [Hat Hc HO]
  · isplitr; · iapply (inv_at m K c κ); iexact HF
    isplitl [Hc]; · iexact Hc
    isplitl [HO]; · iexact HO
    isplitr; · iapply hmw; iexact HF
    iexact Hat
  iintro ⟨HO, Hat, -, Hpay⟩
  ihave Hp := (Entails.of_eq (rest_cell m c κ)) $$ Hpay
  imod (Rounds.cell_close ER (rd m) (Set.mem_univ (K (c, κ))) (fun h => h) (R := 0 + 1) (duties_later m (cell c κ))) $$ [Hat] with Hz
  · isplitr; · iapply (inv_at m K c κ); iexact HF
    iexact Hat
  iapply Hk
  isplitl [Hp]; · iexact Hp
  isplitl [Hz]; · iexact Hz
  iexists (insert (csem κ, ()) W)
  iexact HO

theorem src_credit (t : Tr) : (srcM t).view.dmaCredit = (dstM t).view.dmaCredit := by cases t <;> rfl

/-- The wait for an arrival. -/
theorem wp_rcv (c : Dev nD) (Q : PUnit → sProp 𝕄) (t : Tr) (ps : Due) (hps : ∀ p ∈ ps, klev (.rcv t) < klev p.2) (kk : PP F) :
    iprop(facts m K ∗ (pos c (.rcv t) ∗ crd c (.rcv t)) ∗ ow c ps)
      ⊢ iprop((iprop((ownsTc c (dstM t) fullShare (tv m c t) ∗ zero c (.rcv t)) ∗ ow c ps) -∗ WP c kk Q) -∗ WP c (rcvStep t kk) Q) := by
  iintro ⟨#HF, ⟨Hat, Hc⟩, HO⟩ Hk
  unfold rcvStep
  iapply (wp_wait m K c Q (.rcv t) ps hps (fun Kt => wpE_waitDma2_eq 𝒱₀ (c : Thread nD τ) none Set.univ Kt) rfl rfl) $$ [Hat Hc HO]
  · isplitr; · iexact HF
    isplitl [Hat]; · iexact Hat
    isplitl [Hc] <;> iassumption
  iintro ⟨Hg, Hz, HO⟩
  iapply Hk
  isplitr [HO]
  · isplitl [Hg]; · iapply (Entails.of_eq (show got m c (.rcv t) = ownsTc c (dstM t) fullShare (tv m c t) from rfl)); iexact Hg
    iexact Hz
  iexact HO

/-- The wait for a departure. -/
theorem wp_snd (c : Dev nD) (Q : PUnit → sProp 𝕄) (t : Tr) (kk : PP F) :
    iprop(facts m K ∗ (pos c (.snd t) ∗ crd c (.snd t)) ∗ ow c [])
      ⊢ iprop((iprop((ownsTc c (srcM t) (shr t) (tv m (peer t c) t) ∗ zero c (.snd t)) ∗ ow c []) -∗ WP c kk Q) -∗ WP c (sndStep t kk) Q) := by
  iintro ⟨#HF, ⟨Hat, Hc⟩, HO⟩ Hk
  unfold sndStep
  iapply (wp_wait m K c Q (.snd t) [] (by simp) (fun Kt => wpE_waitDma2_eq 𝒱₀ (c : Thread nD τ) none Set.univ Kt) rfl rfl) $$ [Hat Hc HO]
  · isplitr; · iexact HF
    isplitl [Hat]; · iexact Hat
    isplitl [Hc] <;> iassumption
  iintro ⟨Hg, Hz, HO⟩
  iapply Hk
  isplitr [HO]
  · isplitl [Hg]; · iapply (Entails.of_eq (show got m c (.snd t) = ownsTc c (srcM t) (shr t) (tv m (peer t c) t) from rfl)); iexact Hg
    iexact Hz
  iexact HO

/-! ## Remote copies -/

theorem owns_elim (c : Dev nD) {sp : Space} {s : Shape} {e : EltTy} (M : Memref sig .tc sp s e) (q : PosShare TreeShare) (v : s.Idx → Elt F e) :
    (ownsTc c M q v : sProp 𝕄) ⊢ iprop(∃ f : Buf (Elt F) (M.view.loc (c : Thread nD τ)), ⌜M.view.read (Elt F) f = v⌝ ∗ (M.view.loc (c : Thread nD τ) ↦[M.view.set]{q} f)) := .rfl

/-- Writing one memref's contents over another's: it then reads the same. -/
theorem owns_written (c : Dev nD) {sp : Space} {s : Shape} {e : EltTy} (M : Memref sig .tc sp s e) (fd : Buf (Elt F) (M.view.loc (c : Thread nD τ))) (w : s.Idx → Elt F e) :
    (M.view.loc (c : Thread nD τ) ↦[M.view.set]{fullShare} (M.view.write (Elt F) fd w Finset.univ) : sProp 𝕄) ⊢ ownsTc c M fullShare w := by
  refine (owns_intro (c : Thread nD τ) M fullShare _).trans (Entails.of_eq (congrArg _ ?_))
  exact View.read_write_univ _ _

/-- A remote copy, to the peer as the text computes it, of what device `c` holds at the copy's source into what it
    holds of the peer's destination. -/
theorem wp_sendTo_dev (c n : Dev nD) (Q : PUnit → sProp 𝕄) (t : Tr) (hn : n = peer t c) (ps : Due)
    {hsem : DmaTarget.Typed .vmem (.dma (rcvS t)) (.remote (Dev.tc n : Thread nD τ) (dstM t) (.dma (sndS t)) (dstM_nsc t))} (kk : PP F) :
    iprop(facts m K ∗ (ownsTc c (srcM t) (shr t) (tv m (peer t c) t) ∗ anyOf (F := F) (peer t c) (dstM t) fullShare
        ∗ tok c (.snd t) ∗ tok (peer t c) (.rcv t)) ∗ ow c ((peer t c, .rcv t) :: ps))
      ⊢ iprop((iprop(crd c (.snd t) ∗ ow c ps) -∗ WP c kk Q) -∗ WP c (.op (.enqueueDma (srcM t)
          (.remote (Dev.tc n : Thread nD τ) (dstM t) (.dma (sndS t)) (dstM_nsc t)) (.dma (rcvS t)) (srcM_we t) (dstM_we t) hsem) fun _ => kk) Q) := by
  subst hn
  unfold ow anyOf
  iintro ⟨#HF, ⟨Hs, ⟨%v, Hd⟩, Ht1, Ht2⟩, ⟨%W, HO⟩⟩ Hk
  ihave Hs' := (owns_elim c _ _ _) $$ Hs
  ihave Hd' := (owns_elim (peer t c) _ _ _) $$ Hd
  icases Hs' with ⟨%fs, %hs, Hs⟩
  icases Hd' with ⟨%fd, -, Hd⟩
  iapply (Rounds.wp_send_pointsTo 𝒱₀ ER (rd m) (c : Thread nD τ) none (κ₁ := K (c, .snd t)) (κ₂ := K (peer t c, .rcv t))
    (r₁ := 0) (r₂ := 0) (d₁ := 0) (d₂ := 0) (q := shr t) (fd := fd) (fs := fs) (sS := csem (.snd t)) (sem := csem (.rcv t)) (c' := (peer t c : Thread nD τ))
    (by rw [duties_cell]; exact Finset.mem_singleton_self _) (by rw [duties_cell]; exact Finset.mem_singleton_self _)
    () () (amt (.rcv t)) rfl ((amount_cell m c (.snd t) 0).trans (src_credit t)) (amount_cell m (peer t c) (.rcv t) 0) (owed ps) rfl (W := W)
    (by rw [payload_cell]; show _ ⊢ ownsTc c (srcM t) (shr t) (tv m (peer t c) t); rw [← hs]; exact owns_intro (c : Thread nD τ) (srcM t) (shr t) fs)
    (by rw [payload_cell, hs]; exact owns_written (peer t c) (dstM t) fd _)) $$ [Hs Hd Ht1 Ht2 HO]
  · isplitr; · iapply (inv_at m K c (.snd t)); iexact HF
    isplitr; · iapply (inv_at m K (peer t c) (.rcv t)); iexact HF
    isplitl [Hs]; · iexact Hs
    isplitl [Hd]; · iexact Hd
    isplitl [HO]; · iexact HO
    isplitl [Ht1]; · iexact Ht1
    isplitr; · iapply (reached_at m K c (.snd t)); iexact HF
    isplitl [Ht2]; · iexact Ht2
    iapply (reached_at m K (peer t c) (.rcv t)); iexact HF
  iintro ⟨Hc, HO⟩
  iapply Hk
  isplitl [Hc]
  · rw [show amt (.rcv t) = tot (.snd t) from (src_credit t).symm]; iexact Hc
  iexists W; iexact HO

theorem wp_sendTo (c : Dev nD) (Q : PUnit → sProp 𝕄) (t : Tr) (ps : Due) (kk : PP F) :
    iprop(facts m K ∗ (ownsTc c (srcM t) (shr t) (tv m (peer t c) t) ∗ anyOf (F := F) (peer t c) (dstM t) fullShare
        ∗ tok c (.snd t) ∗ tok (peer t c) (.rcv t)) ∗ ow c ((peer t c, .rcv t) :: ps))
      ⊢ iprop((iprop(crd c (.snd t) ∗ ow c ps) -∗ WP c kk Q) -∗ WP c (sendStep c t kk) Q) :=
  wp_sendTo_dev m K c (devW c t) Q t (devW_eq c t) ps kk

end Cert.KernelIdeal

end
-- ==== Proof.Local.lean ====
/- The rules of the steps that stay on a device: signals, the barrier's wait, copies in and out, loads and stores. -/
module

public import proofs.«01_k».proof.Proof.Steps
public import Idealize.ShloMosaic.Lib.MemrefSat
public import Idealize.ShloMosaic.Lib.VecWindow

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## The barrier -/

theorem wp_sig_dev (c n : Dev nD) (Q : PUnit → sProp 𝕄) (i : Fin 3) (hn : n = nb i c) (ps : Due) (kk : PP F) :
    iprop(facts m K ∗ (dutyTok ER (cell (nb i c) .bar) 0 i ∗ bigSepL (dirL i) fun t => anyOf (F := F) c (dstM t) fullShare)
        ∗ ow c ((nb i c, .bar) :: ps))
      ⊢ iprop((iprop(emp ∗ ow c ps) -∗ WP c kk Q)
          -∗ WP c (.op (.semSignal (n, .tc) barS (1#32 : BitVec 32).toInt) fun _ => kk) Q) := by
  subst hn
  unfold ow
  iintro ⟨#HF, ⟨Ht, Hb⟩, ⟨%W, HO⟩⟩ Hk
  iapply (Rounds.wp_signal 𝒱₀ ER (rd m) (c : Thread nD τ) none (dst := (nb i c : Thread nD τ)) (κ := K (nb i c, .bar)) (r := 0)
      (d := i) (sem := barS) (by rw [show ((nb i c : Thread nD τ), SemLoc.reg barS) = cell (nb i c) .bar from rfl, duties_cell]; exact Finset.mem_univ _)
      ((amount_cell m (nb i c) .bar i).trans (by decide)) () (owed ps) rfl (W := W)) $$ [HO Ht Hb]
  · isplitr; · iapply (inv_at m K (nb i c) .bar); iexact HF
    isplitl [HO]; · iexact HO
    isplitl [Ht]; · iexact Ht
    isplitl [Hb]
    · iapply (Entails.of_eq (show (bigSepL (dirL i) fun t => anyOf (F := F) c (dstM t) fullShare) = (rd m).payload ((nb i c : Thread nD τ), .reg barS) 0 i from by
        rw [show ((nb i c : Thread nD τ), SemLoc.reg barS) = cell (nb i c) .bar from rfl, payload_cell, pay, nb_nb]))
      iexact Hb
    iapply (reached_at m K (nb i c) .bar); iexact HF
  iintro HO
  iapply Hk
  isplitr; · iempintro
  iexists W; iexact HO

theorem wp_sig (c : Dev nD) (Q : PUnit → sProp 𝕄) (i : Fin 3) (ps : Due) (kk : PP F) :
    iprop(facts m K ∗ (dutyTok ER (cell (nb i c) .bar) 0 i ∗ bigSepL (dirL i) fun t => anyOf (F := F) c (dstM t) fullShare)
        ∗ ow c ((nb i c, .bar) :: ps))
      ⊢ iprop((iprop(emp ∗ ow c ps) -∗ WP c kk Q) -∗ WP c (sigStep c i kk) Q) :=
  wp_sig_dev m K c (devB c i) Q i (devB_eq c i) ps kk

theorem wp_bar (c : Dev nD) (Q : PUnit → sProp 𝕄) (ps : Due) (hps : ∀ p ∈ ps, klev .bar < klev p.2) (kk : PP F) :
    iprop(facts m K ∗ pos c .bar ∗ crd c .bar ∗ ow c ps)
      ⊢ iprop((iprop((bigSepL cL fun i => bigSepL (dirL i) fun t => anyOf (F := F) (nb i c) (dstM t) fullShare) ∗ zero c .bar ∗ ow c ps) -∗ WP c kk Q)
          -∗ WP c (.op (.semWait barS (3#32 : BitVec 32).toInt) fun _ => kk) Q) :=
  wp_wait m K c Q .bar ps hps (fun Kt => wpE_semWait_eq 𝒱₀ (c : Thread nD τ) none Set.univ Kt) rfl (by decide) fun _ => kk

/-! ## Loads and stores -/

theorem wp_loadAt (c : Dev nD) (Q : PUnit → sProp 𝕄) {cs : CoreSpace} {s : Shape} {e : EltTy} (M : Memref sig .tc cs s e) (r : LoadRect s) {hl : M.view.LoadsAt r} (q : PosShare TreeShare) (v : s.Idx → Elt F e) (k : (r.shape.Idx → Elt F e) → PP F) :
    (ownsTc c M q v : sProp 𝕄) ⊢ iprop((ownsTc (Val := Elt F) c M q v -∗ WP c (k fun x => v (r.idx x)) Q) -∗ WP c (.op (.load M r hl) k) Q) := by
  iintro H Hk
  ihave H' := (owns_elim c _ _ _) $$ H
  icases H' with ⟨%f, %hf, H⟩
  iapply (wp_load 𝒱₀ (c : Thread nD τ) none Set.univ (m := M) (View.setOn_subset_set _ _)) $$ H
  iintro H
  rw [show M.view.readAt (Elt F) r f = fun x => v (r.idx x) from by rw [← hf]; rfl]
  iapply Hk
  rw [← hf]
  iapply (owns_intro (c : Thread nD τ) M q f); iexact H

theorem wp_loadSl (c : Dev nD) (Q : PUnit → sProp 𝕄) {cs : CoreSpace} {s : Shape} {e : EltTy} (M : Memref sig .tc cs s e) (r : Rect s) (hr : ∀ a, r.stride a = 1) {hl : M.view.LoadsAt r.toLoadRect} (q : PosShare TreeShare) (v : r.shape.Idx → Elt F e)
    (k : (r.shape.Idx → Elt F e) → PP F) :
    (ownsTc c (M.slice r hr) q v : sProp 𝕄) ⊢ iprop((ownsTc (Val := Elt F) c (M.slice r hr) q v -∗ WP c (k v) Q) -∗ WP c (.op (.load M r.toLoadRect hl) k) Q) := by
  iintro H Hk
  ihave H' := (owns_elim c _ _ _) $$ H
  icases H' with ⟨%f, %hf, H⟩
  iapply (wp_load_rect 𝒱₀ (c : Thread nD τ) none Set.univ (m := M) (r := r) (S := (M.slice r hr).view.set) (f := f) subset_rfl) $$ H
  iintro H
  rw [show (M.access r).read (Elt F) f = v from hf]
  iapply Hk
  rw [← hf]
  iapply (owns_intro (c : Thread nD τ) (M.slice r hr) q f); iexact H

theorem wp_storeSl (c : Dev nD) (Q : PUnit → sProp 𝕄) {cs : CoreSpace} {s : Shape} {e : EltTy} (M : Memref sig .tc cs s e) (r : Rect s) (hr : ∀ a, r.stride a = 1) (w : r.shape.Idx → Elt F e) {hx : (M.access r).Stores Finset.univ}
    {hm : (Finset.univ : Finset r.shape.Idx) = Finset.univ ∨ ∀ a, r.stride a = 1} (v : r.shape.Idx → Elt F e) (k : PUnit → PP F) :
    (ownsTc c (M.slice r hr) fullShare v : sProp 𝕄)
      ⊢ iprop((ownsTc (Val := Elt F) c (M.slice r hr) fullShare w -∗ WP c (k ⟨⟩) Q) -∗ WP c (.op (.store M r w Finset.univ hx hm) k) Q) := by
  iintro H Hk
  ihave H' := (owns_elim c _ _ _) $$ H
  icases H' with ⟨%f, -, H⟩
  iapply (wp_store 𝒱₀ (c : Thread nD τ) none Set.univ (m := M) (r := r) (Mk := Finset.univ) (S := (M.slice r hr).view.set) (f := f) subset_rfl) $$ H
  iintro H
  iapply Hk
  iapply (owns_written c (M.slice r hr) f w); iexact H

/-! ## Local copies -/

/-- A local copy whose payload is its destination holding what the source reads, and any use `R` of the source's share. -/
theorem wp_copyTo (c : Dev nD) (Q : PUnit → sProp 𝕄) (κ : Ck) {sp sp' : Space} {s : Shape} {e : EltTy} (M : Memref sig .tc sp s e) (M' : Memref sig .tc sp' s e)
    {sm : SemLoc sig} {h₁ : M.view.WordExact} {h₂ : M'.view.WordExact} {h₃ : DmaTarget.Typed sp sm (DmaTarget.here (nD := nD) (p := (.tc : Proc τ)) M')}
    (q : PosShare TreeShare) (v : s.Idx → Elt F e) (hs : sm = csem κ) (h0 : dutS κ = {0})
    (hN : M'.view.amount (csem κ) = amt κ) (ht : amt κ = tot κ)
    (hpay : iprop(ownsTc c M' fullShare v ∗ ownsTc c M q v) ⊢ pay m c κ 0) (kk : PP F) :
    iprop(facts m K ∗ ownsTc c M q v ∗ anyOf (F := F) c M' fullShare ∗ tok c κ)
      ⊢ iprop((crd c κ -∗ WP c kk Q) -∗ WP c (.op (.enqueueDma M (.here M') sm h₁ h₂ h₃) fun _ => kk) Q) := by
  subst hs
  unfold anyOf
  iintro ⟨#HF, Hs, ⟨%v', Hd⟩, Ht⟩ Hk
  ihave Hs' := (owns_elim c _ _ _) $$ Hs
  ihave Hd' := (owns_elim c _ _ _) $$ Hd
  icases Hs' with ⟨%fs, %hs, Hs⟩
  icases Hd' with ⟨%fd, -, Hd⟩
  iapply (Rounds.wp_copy_pointsTo 𝒱₀ ER (rd m) (c : Thread nD τ) none (κ := K (c, κ)) (r := 0) (d := 0) (q := q) (fs := fs) (fd := fd) (sem := csem κ)
    (by rw [duties_cell, h0]; exact Finset.mem_singleton_self _) () (amt κ) hN (amount_cell m c κ 0)
    (by
      rw [payload_cell]
      refine (BI.sep_mono ?_ ?_).trans hpay
      · rw [hs]; exact owns_written c M' fd v
      · rw [← hs]; exact owns_intro (c : Thread nD τ) M q fs)) $$ [Hs Hd Ht]
  · isplitr; · iapply (inv_at m K c κ); iexact HF
    isplitl [Hs]; · iexact Hs
    isplitl [Hd]; · iexact Hd
    isplitl [Ht]; · iexact Ht
    iapply (reached_at m K c κ); iexact HF
  iintro Hc
  iapply Hk
  rw [ht]; iexact Hc

theorem wp_stStart (c : Dev nD) (Q : PUnit → sProp 𝕄) (q : PosShare TreeShare) (k : Fin 10) (kk : PP F) :
    iprop(facts m K ∗ (ownsTc c (stSrc c k) q (stV m c k) ∗ anyOf (F := F) c (stDst k) fullShare ∗ tok c (.st k)) ∗ emp)
      ⊢ iprop((iprop(crd c (.st k) ∗ emp) -∗ WP c kk Q) -∗ WP c (stStart c k kk) Q) := by
  iintro ⟨#HF, ⟨Hs, Hd, Ht⟩, -⟩ Hk
  unfold stStart
  iapply (wp_copyTo m K c Q (.st k) (stSrc c k) (stDst k) q (stV m c k) rfl rfl rfl rfl
    (show iprop(ownsTc c (stDst k) fullShare (stV m c k) ∗ ownsTc c (stSrc c k) q (stV m c k)) ⊢ ownsTc c (stDst k) fullShare (stV m c k) from by
      iintro ⟨H, -⟩; iexact H) kk) $$ [Hs Hd Ht]
  · isplitr; · iexact HF
    isplitl [Hs]; · iexact Hs
    isplitl [Hd] <;> iassumption
  iintro Hc
  iapply Hk
  isplitl [Hc]; · iexact Hc
  iempintro

theorem wp_loStart (c : Dev nD) (Q : PUnit → sProp 𝕄) (q : PosShare TreeShare) (kk : PP F) :
    iprop(facts m K ∗ ownsTc c (loSrc c) q (loV m c) ∗ anyOf (F := F) c locM fullShare ∗ tok c .loc)
      ⊢ iprop((crd c .loc -∗ WP c kk Q) -∗ WP c (loStart c kk) Q) :=
  wp_copyTo m K c Q .loc (loSrc c) locM q (loV m c) rfl rfl rfl rfl
    (show iprop(ownsTc c locM fullShare (loV m c) ∗ ownsTc c (loSrc c) q (loV m c)) ⊢ ownsTc c locM fullShare (loV m c) from by
      iintro ⟨H, -⟩; iexact H) kk

theorem wp_loWait (c : Dev nD) (Q : PUnit → sProp 𝕄) (ps : Due) (hps : ∀ p ∈ ps, klev .loc < klev p.2) (kk : PP F) :
    iprop(facts m K ∗ pos c .loc ∗ crd c .loc ∗ ow c ps)
      ⊢ iprop((iprop(ownsTc c locM fullShare (loV m c) ∗ zero c .loc ∗ ow c ps) -∗ WP c kk Q) -∗ WP c (loWait c kk) Q) :=
  wp_wait m K c Q .loc ps hps (fun Kt => wpE_waitDma2_eq 𝒱₀ (c : Thread nD τ) none Set.univ Kt) rfl rfl fun _ => kk

/-- A stage chunk waited for and rounded into its chunk of the send buffer. -/
theorem wp_cvt (c : Dev nD) (Q : PUnit → sProp 𝕄) (k : Fin 10) (ps : Due) (hps : ∀ p ∈ ps, klev (.st k) < klev p.2) (kk : PP F) :
    iprop(facts m K ∗ (pos c (.st k) ∗ crd c (.st k) ∗ anyOf (F := F) c (ysM.slice (ysR k) (fun _ => rfl)) fullShare) ∗ ow c ps)
      ⊢ iprop((iprop(ownsTc c (ysM.slice (ysR k) (fun _ => rfl)) fullShare (ysV m c k) ∗ (ownsTc c (stDst k) fullShare (stV m c k) ∗ zero c (.st k)) ∗ ow c ps)
            -∗ WP c kk Q) -∗ WP c (cvtStep c k kk) Q) := by
  unfold anyOf
  iintro ⟨#HF, ⟨Hp, Hc, ⟨%v, Hy⟩⟩, HO⟩ Hk
  unfold cvtStep
  iapply (wp_wait m K c Q (.st k) ps hps (fun Kt => wpE_waitDma2_eq 𝒱₀ (c : Thread nD τ) none Set.univ Kt) rfl rfl) $$ [Hp Hc HO]
  · isplitr; · iexact HF
    isplitl [Hp]; · iexact Hp
    isplitl [Hc] <;> iassumption
  iintro ⟨Hg, Hz, HO⟩
  ihave Hg := (Entails.of_eq (show got m c (.st k) = ownsTc c (stgM.slice (ysR k) (fun _ => rfl)) fullShare (stV m c k) from rfl)) $$ Hg
  iapply (wp_loadSl c Q stgM (ysR k) (fun _ => rfl) fullShare (stV m c k)) $$ Hg
  iintro Hg
  iapply (wp_loadSl c Q ysM (ysR k) (fun _ => rfl) fullShare v) $$ Hy
  iintro Hy
  iapply (wp_storeSl c Q ysM (ysR k) (fun _ => rfl) (ysV m c k) v) $$ Hy
  iintro Hy
  iapply Hk
  isplitl [Hy]; · iexact Hy
  isplitr [HO]
  · isplitl [Hg] <;> iassumption
  iexact HO

/-! ## The blocks -/

theorem blk_off : ∀ (c : Dev nD) (b : Fin 6), (blk c b).off = (blk c b).off' := by decide +kernel

theorem slice_congr {sp : Space} {s : Shape} {e : EltTy} (M : Memref sig .tc sp s e) {off off' size : Fin s.rank → ℕ} (h : off = off')
    (inb : ∀ a, off a + size a ≤ s.size a) (inb' : ∀ a, off' a + size a ≤ s.size a) :
    M.slice (Rect.unit (s := s) off size inb) (fun _ => rfl) = M.slice (Rect.unit (s := s) off' size inb') (fun _ => rfl) := by
  subst h; rfl

/-- A block's addition stored into the result's buffer. -/
theorem wp_addStore (c : Dev nD) (Q : PUnit → sProp 𝕄) (B : Blk) (hB : B.off = B.off') (q : PosShare TreeShare) (V : Vec F S4096x1024 .f32) (w : Vec F (Sh B.h) .bf16) (kk : PP F) :
    iprop(ownsTc c locM fullShare V ∗ ownsTc c B.rcv q w ∗ anyOf (F := F) c B.src fullShare)
      ⊢ iprop((iprop(ownsTc c locM fullShare V ∗ ownsTc c B.rcv q w
              ∗ ownsTc c B.src fullShare (addPay B.sc (locM.view.readAt (Elt F) B.rect.toLoadRect V) w))
            -∗ WP c (.op (.enqueueDma B.src (.here B.dst) (.dma B.s) ((Memref.isWhole_whole _).wordExact_slice rfl _ B.ww)
                ((Memref.isWhole_whole _).wordExact_slice rfl _ B.ww) ⟨Or.inl rfl, trivial⟩) fun _ => kk) Q)
          -∗ WP c (addStep B kk) Q) := by
  unfold anyOf addStep
  iintro ⟨Hl, Hr, ⟨%v, Ha⟩⟩ Hk
  iapply (wp_loadAt c Q locM B.rect.toLoadRect fullShare V) $$ Hl
  iintro Hl
  iapply (wp_loadAt c Q B.rcv (Rect.unit (s := Sh B.h) ![0, 0] (Sh B.h).size B.inb0).toLoadRect q w) $$ Hr
  iintro Hr
  obtain ⟨h, off, off', rcv, s, pos, inb, inb', inb0, pk, ww, sc⟩ := B
  dsimp only at hB
  subst hB
  iapply (wp_loadSl c Q accM (Rect.unit (s := S4096x1024) off (Sh h).size inb) (fun _ => rfl) fullShare v) $$ Ha
  iintro Ha
  iapply (wp_storeSl c Q accM (Rect.unit (s := S4096x1024) off (Sh h).size inb) (fun _ => rfl) _ v) $$ Ha
  iintro Ha
  iapply Hk
  isplitl [Hl]; · iexact Hl
  isplitl [Hr]; · iexact Hr
  rw [show (fun x => w ((Rect.unit (s := Sh h) ![0, 0] (Sh h).size inb0).toLoadRect.idx x)) = w from by
    funext y
    refine congrArg w (funext fun a => Fin.ext ?_)
    show (![0, 0] : Fin 2 → ℕ) a + 1 * (y a).val = (y a).val
    fin_cases a <;> simp]
  iexact Ha

theorem wp_add (c : Dev nD) (Q : PUnit → sProp 𝕄) (b : Fin 6) (q : PosShare TreeShare) (kk : PP F) :
    iprop(facts m K ∗ ownsTc c locM fullShare (loV m c) ∗ ownsTc c (blk c b).rcv q (rcvV m c b)
        ∗ anyOf (F := F) c (blk c b).src fullShare ∗ anyOf (F := F) c (blk c b).dst fullShare ∗ tok c (.oc b))
      ⊢ iprop((iprop(ownsTc c locM fullShare (loV m c) ∗ ownsTc c (blk c b).rcv q (rcvV m c b) ∗ crd c (.oc b)) -∗ WP c kk Q)
          -∗ WP c (addStep (blk c b) kk) Q) := by
  iintro ⟨#HF, Hl, Hr, Ha, Ho, Ht⟩ Hk
  iapply (wp_addStore c Q (blk c b) (blk_off c b) q (loV m c) (rcvV m c b) kk) $$ [Hl Hr Ha]
  · isplitl [Hl]; · iexact Hl
    isplitl [Hr] <;> iassumption
  iintro ⟨Hl, Hr, Ha⟩
  iapply (wp_copyTo m K c Q (.oc b) (blk c b).src (blk c b).dst fullShare (blkV m c b) (congrArg SemLoc.dma (blk_s c b)) rfl
    (by revert b c; intro c b; fin_cases b <;> rfl) rfl (Entails.of_eq (show _ = pay m c (.oc b) 0 from rfl)) kk) $$ [Ha Ho Ht]
  · isplitr; · iexact HF
    isplitl [Ha]; · iexact Ha
    isplitl [Ho] <;> iassumption
  iintro Hc
  iapply Hk
  isplitl [Hl]; · iexact Hl
  isplitl [Hr] <;> iassumption

theorem wp_out (c : Dev nD) (Q : PUnit → sProp 𝕄) (b : Fin 6) (kk : PP F) :
    iprop(facts m K ∗ (pos c (.oc b) ∗ crd c (.oc b)) ∗ ow c [])
      ⊢ iprop((iprop((pay m c (.oc b) 0 ∗ zero c (.oc b)) ∗ ow c []) -∗ WP c kk Q) -∗ WP c (outStep (blk c b) kk) Q) := by
  iintro ⟨#HF, ⟨Hat, Hc⟩, HO⟩ Hk
  unfold outStep
  iapply (wp_wait m K c Q (.oc b) [] (by simp) (fun Kt => wpE_waitDma2_eq 𝒱₀ (c : Thread nD τ) none Set.univ Kt) (congrArg SemLoc.dma (blk_s c b))
    (by fin_cases b <;> rfl)) $$ [Hat Hc HO]
  · isplitr; · iexact HF
    isplitl [Hat]; · iexact Hat
    isplitl [Hc] <;> iassumption
  iintro ⟨Hg, Hz, HO⟩
  iapply Hk
  isplitr [HO]
  · isplitl [Hg]; · iapply (Entails.of_eq (show got m c (.oc b) = pay m c (.oc b) 0 from rfl)); iexact Hg
    iexact Hz
  iexact HO

end Cert.KernelIdeal

end
-- ==== Proof.Split.lean ====
/- Buffers cut into chunks and blocks, and put together again. -/
module

public import proofs.«01_k».proof.Proof.Local

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists -/

theorem bigSepL_sep {ι : Type} (l : List ι) (Φ Ψ : ι → sProp 𝕄) : bigSepL l (fun i => iprop(Φ i ∗ Ψ i)) ⊣⊢ iprop(bigSepL l Φ ∗ bigSepL l Ψ) := by
  induction l with
  | nil =>
    rw [bigSepL_nil, bigSepL_nil, bigSepL_nil]
    constructor
    · iintro -
      isplitr <;> iempintro
    · iintro -; iempintro
  | cons i l ih =>
    rw [bigSepL_cons', bigSepL_cons', bigSepL_cons']
    constructor
    · iintro ⟨⟨Ha, Hb⟩, H⟩
      ihave H := ih.1 $$ H
      icases H with ⟨H1, H2⟩
      isplitl [Ha H1]
      · isplitl [Ha] <;> iassumption
      · isplitl [Hb] <;> iassumption
    · iintro ⟨⟨Ha, H1⟩, Hb, H2⟩
      isplitl [Ha Hb]
      · isplitl [Ha] <;> iassumption
      iapply ih.2
      isplitl [H1] <;> iassumption

theorem bigSepL_emp {ι : Type} (l : List ι) : (iprop(emp) : sProp 𝕄) ⊢ bigSepL l fun _ => iprop(emp) := by
  induction l with
  | nil => rw [bigSepL_nil]; exact .rfl
  | cons i l ih =>
    rw [bigSepL_cons']
    iintro -
    isplitr; · iempintro
    iapply ih; iempintro

/-! ## Chunks -/

theorem any_of (c : Dev nD) {sp : Space} {s : Shape} {e : EltTy} (M : Memref sig .tc sp s e) (q : PosShare TreeShare) (v : s.Idx → Elt F e) :
    (ownsTc c M q v : sProp 𝕄) ⊢ anyOf (F := F) c M q := by
  unfold anyOf; iintro H; iexists v; iexact H

section
variable {n R : ℕ} (hR : R = 128 * n)
include hR

theorem chunk_le (k : Fin n) : 128 * k.val + 128 ≤ R := by omega

abbrev chunkR (k : Fin n) : Rect (Sh R) := Rect.unit (s := Sh R) ![128 * k.val, 0] S128x1024.size (inbRow (chunk_le hR k))

theorem chunkR_disj (k k' : Fin n) (h : k ≠ k') : Disjoint (chunkR hR k).set (chunkR hR k').set := by
  refine Rect.unit_disjoint (0 : Fin 2) ?_
  have : k.val ≠ k'.val := fun e => h (Fin.ext e)
  show 128 * k.val + 128 ≤ 128 * k'.val ∨ 128 * k'.val + 128 ≤ 128 * k.val
  omega

theorem chunkR_cover : (Finset.univ : Finset (Fin n)).biUnion (fun k => (chunkR hR k).set) = Finset.univ := by
  refine Finset.eq_univ_of_forall fun i => Finset.mem_biUnion.mpr ?_
  have hi : (i 0).val < R := (i 0).isLt
  have hj : (i 1).val < 1024 := (i 1).isLt
  refine ⟨⟨(i 0).val / 128, by omega⟩, Finset.mem_univ _, Rect.mem_set_unit.mpr (Fin.forall_fin_two.mpr ⟨?_, ?_⟩)⟩
  · show 128 * ((i 0).val / 128) ≤ (i 0).val ∧ (i 0).val < 128 * ((i 0).val / 128) + 128
    omega
  · show 0 ≤ (i 1).val ∧ (i 1).val < 0 + 1024
    omega

theorem glue_emb {α : Type} (g : Fin n → S128x1024.Idx → α) (k : Fin n) : (fun j => glue hR g ((chunkR hR k).emb j)) = g k := by
  funext j
  have h0 : (((chunkR hR k).emb j) 0).val = 128 * k.val + 1 * (j 0).val := rfl
  have hj : (j 0).val < 128 := (j 0).isLt
  unfold glue
  have e : (⟨(((chunkR hR k).emb j) 0).val / 128, by rw [h0]; omega⟩ : Fin n) = k := Fin.ext (by show (((chunkR hR k).emb j) 0).val / 128 = k.val; rw [h0]; omega)
  rw [e]
  refine congrArg (g k) (funext fun a => ?_)
  match a with
  | ⟨0, _⟩ => exact Fin.ext (by show (((chunkR hR k).emb j) 0).val % 128 = (j 0).val; rw [h0]; omega)
  | ⟨1, _⟩ => exact Fin.ext (by show 0 + 1 * (j 1).val = (j 1).val; omega)

variable {e : EltTy} (c : Dev nD) (M : Memref sig .tc .vmem (Sh R) e) (q : PosShare TreeShare) (l : List (Fin n)) (hl : l.Nodup) (hm : ∀ k, k ∈ l)
include hl hm

/-- A buffer by its chunks, in any order: -/
theorem chunks_split (v : (Sh R).Idx → Elt F e) :
    (ownsTc c M q v : sProp 𝕄) ⊢ bigSepL l fun k => ownsTc c (chunk M (128 * k.val) (chunk_le hR k)) q (fun j => v ((chunkR hR k).emb j)) := by
  rw [← bigSep_univ_eq_bigSepL l (by ext k; simp [hm k]) hl]
  exact owns_rects (c : Thread nD τ) M q (chunkR hR) (fun _ _ => rfl) (chunkR_disj hR) (chunkR_cover hR) v

theorem chunks_any : (anyOf (F := F) c M q : sProp 𝕄) ⊢ bigSepL l fun k => anyOf (F := F) c (chunk M (128 * k.val) (chunk_le hR k)) q := by
  unfold anyOf
  iintro ⟨%v, H⟩
  ihave H := (chunks_split hR c M q l hl hm v) $$ H
  iapply (bigSepL_mono fun k _ => any_of c (chunk M (128 * k.val) (chunk_le hR k)) q _)
  iexact H

theorem chunks_cut (g : Fin n → S128x1024.Idx → Elt F e) :
    (ownsTc c M q (glue hR g) : sProp 𝕄) ⊢ bigSepL l fun k => ownsTc c (chunk M (128 * k.val) (chunk_le hR k)) q (g k) := by
  refine (chunks_split hR c M q l hl hm (glue hR g)).trans (bigSepL_mono fun k _ => Entails.of_eq (congrArg (ownsTc c (chunk M (128 * k.val) (chunk_le hR k)) q) (glue_emb hR g k)))

theorem chunks_join (g : Fin n → S128x1024.Idx → Elt F e) :
    (bigSepL l fun k => ownsTc c (chunk M (128 * k.val) (chunk_le hR k)) q (g k)) ⊢ (ownsTc c M q (glue hR g) : sProp 𝕄) := by
  rw [← bigSep_univ_eq_bigSepL l (by ext k; simp [hm k]) hl]
  refine BI.Entails.trans (Entails.of_eq (bigSep_congr fun k _ => (congrArg (ownsTc c (chunk M (128 * k.val) (chunk_le hR k)) q) (glue_emb hR g k)).symm))
    (owns_of_rects (c : Thread nD τ) M q (chunkR hR) (fun _ _ => rfl) (chunkR_disj hR) (chunkR_cover hR) (glue hR g))

end

theorem chunk_congr {R : ℕ} {e : EltTy} (M : Memref sig .tc .vmem (Sh R) e) {o o' : ℕ} (h : o = o') (hh : o + 128 ≤ R) (hh' : o' + 128 ≤ R) :
    chunk M o hh = chunk M o' hh' := by subst h; rfl

/-! ## Blocks of the result -/

theorem blk_off1 : ∀ (c : Dev nD) (b : Fin 6), (blk c b).off' 1 = 0 := by decide +kernel

theorem blk_sep : ∀ (c : Dev nD) (b b' : Fin 6), b ≠ b' →
    (blk c b).off' 0 + (blk c b).h ≤ (blk c b').off' 0 ∨ (blk c b').off' 0 + (blk c b').h ≤ (blk c b).off' 0 := by decide +kernel

theorem blk_bands : ∀ (c : Dev nD) (t : Fin 32), ∃ b : Fin 6, (blk c b).off' 0 ≤ 128 * t.val ∧ 128 * t.val + 128 ≤ (blk c b).off' 0 + (blk c b).h := by decide +kernel

theorem blk_disj (c : Dev nD) (b b' : Fin 6) (h : b ≠ b') : Disjoint (blk c b).rect'.set (blk c b').rect'.set :=
  Rect.unit_disjoint (0 : Fin 2) (blk_sep c b b' h)

theorem mem_blk (c : Dev nD) (b : Fin 6) (i : S4096x1024.Idx) :
    i ∈ (blk c b).rect'.set ↔ (blk c b).off' 0 ≤ (i 0).val ∧ (i 0).val < (blk c b).off' 0 + (blk c b).h := by
  have hj : (i 1).val < 1024 := (i 1).isLt
  refine Rect.mem_set_unit.trans ⟨fun h => h 0, fun h => Fin.forall_fin_two.mpr ⟨h, ?_⟩⟩
  rw [blk_off1]
  exact ⟨Nat.zero_le _, by show (i 1).val < 0 + 1024; omega⟩

theorem blk_cover (c : Dev nD) : (Finset.univ : Finset (Fin 6)).biUnion (fun b => (blk c b).rect'.set) = Finset.univ := by
  refine Finset.eq_univ_of_forall fun i => Finset.mem_biUnion.mpr ?_
  have hi : (i 0).val < 4096 := (i 0).isLt
  obtain ⟨b, h1, h2⟩ := blk_bands c ⟨(i 0).val / 128, by omega⟩
  exact ⟨b, Finset.mem_univ _, (mem_blk c b i).mpr (by dsimp only at h1 h2; omega)⟩

/-- A buffer of the result's shape by the six blocks. -/
theorem blks_any (c : Dev nD) {sp : Space} (M : Memref sig .tc sp S4096x1024 .bf16) :
    (anyOf (F := F) c M fullShare : sProp 𝕄) ⊢ bigSepL oL fun b => anyOf (F := F) c (M.slice (blk c b).rect' (fun _ => rfl)) fullShare := by
  unfold anyOf
  rw [← bigSep_univ_eq_bigSepL oL (by decide) (by decide)]
  iintro ⟨%v, H⟩
  ihave H := (owns_rects (c : Thread nD τ) M fullShare (fun b => (blk c b).rect') (fun _ _ => rfl) (blk_disj c) (blk_cover c) v) $$ H
  iapply (show (bigSep Finset.univ fun b => ownsTc c (M.slice (blk c b).rect' (fun _ => rfl)) fullShare fun j => v ((blk c b).rect'.emb j))
      ⊢ (bigSep Finset.univ fun b => anyOf (F := F) c (M.slice (blk c b).rect' (fun _ => rfl)) fullShare : sProp 𝕄) from
    bigSep_mono fun b _ => any_of c (M.slice (blk c b).rect' (fun _ => rfl)) fullShare _)
  iexact H

/-- Which block a row of the result belongs to. -/
def blkOf (c : Dev nD) (i : S4096x1024.Idx) : Fin 6 :=
  if h : ∃ b : Fin 6, i ∈ (blk c b).rect'.set then h.choose else 0

theorem mem_blkOf (c : Dev nD) (i : S4096x1024.Idx) : i ∈ (blk c (blkOf c i)).rect'.set := by
  have h : ∃ b : Fin 6, i ∈ (blk c b).rect'.set := by
    have := (blk_cover c) ▸ Finset.mem_univ i
    obtain ⟨b, -, hb⟩ := Finset.mem_biUnion.mp this
    exact ⟨b, hb⟩
  unfold blkOf; rw [dif_pos h]; exact h.choose_spec

/-- A buffer put together from six blocks. -/
def patch {α : Type} (c : Dev nD) (g : (b : Fin 6) → (Sh (blk c b).h).Idx → α) : S4096x1024.Idx → α := fun i =>
  g (blkOf c i) (((blk c (blkOf c i)).rect'.exists_idx_of_mem (mem_blkOf c i)).choose)

theorem patch_emb {α : Type} (c : Dev nD) (g : (b : Fin 6) → (Sh (blk c b).h).Idx → α) (b : Fin 6) :
    (fun j => patch c g ((blk c b).rect'.emb j)) = g b := by
  funext j
  have hb : blkOf c ((blk c b).rect'.emb j) = b := by
    by_contra hne
    exact Finset.disjoint_left.mp (blk_disj c _ _ hne) (mem_blkOf c _) ((blk c b).rect'.idx_mem j)
  unfold patch
  have h := ((blk c (blkOf c ((blk c b).rect'.emb j))).rect'.exists_idx_of_mem (mem_blkOf c ((blk c b).rect'.emb j))).choose_spec
  generalize ((blk c (blkOf c ((blk c b).rect'.emb j))).rect'.exists_idx_of_mem (mem_blkOf c ((blk c b).rect'.emb j))).choose = j' at h ⊢
  revert j' h
  rw [hb]
  intro j' h
  exact congrArg (g b) ((blk c b).rect'.emb.injective h)

theorem blks_join (c : Dev nD) {sp : Space} (M : Memref sig .tc sp S4096x1024 .bf16) (g : (b : Fin 6) → (Sh (blk c b).h).Idx → Elt F .bf16) :
    (bigSepL oL fun b => ownsTc c (M.slice (blk c b).rect' (fun _ => rfl)) fullShare (g b)) ⊢ (ownsTc c M fullShare (patch c g) : sProp 𝕄) := by
  rw [← bigSep_univ_eq_bigSepL oL (by decide) (by decide)]
  refine BI.Entails.trans (Entails.of_eq (bigSep_congr fun b _ => (congrArg (ownsTc c (M.slice (blk c b).rect' (fun _ => rfl)) fullShare) (patch_emb c g b)).symm))
    (owns_of_rects (c : Thread nD τ) M fullShare (fun b => (blk c b).rect') (fun _ _ => rfl) (blk_disj c) (blk_cover c) (patch c g))

/-! ## Shares of the argument -/

/-- Some share of a memref at known contents. -/
def someOf (c : Dev nD) {sp : Space} {s : Shape} {e : EltTy} (M : Memref sig .tc sp s e) (v : s.Idx → Elt F e) : sProp 𝕄 :=
  iprop(∃ q, ownsTc (Val := Elt F) c M q v)

/-- Some share of the argument. -/
def argOf (c : Dev nD) : sProp 𝕄 := someOf c inM (argV m c)

theorem arg_two (c : Dev nD) : argOf m c ⊢ iprop(argOf m c ∗ argOf m c) := by
  unfold argOf someOf
  iintro ⟨%q, H⟩
  ihave H := (owns_halves (c : Thread nD τ) inM q (argV m c)).1 $$ H
  icases H with ⟨H1, H2⟩
  isplitl [H1]
  · iexists q.left; iexact H1
  · iexists q.right; iexact H2

theorem arg_many (c : Dev nD) {ι : Type} (l : List ι) : argOf m c ⊢ iprop(argOf m c ∗ bigSepL l fun _ => argOf m c) := by
  induction l with
  | nil =>
    rw [bigSepL_nil]
    iintro H
    isplitl [H]; · iexact H
    iempintro
  | cons i l ih =>
    rw [bigSepL_cons']
    iintro H
    ihave H := ih $$ H
    icases H with ⟨H, Hl⟩
    ihave H := (arg_two m c) $$ H
    icases H with ⟨H, H'⟩
    isplitl [H]; · iexact H
    isplitl [H'] <;> iassumption

theorem arg_st (c : Dev nD) (k : Fin 10) : argOf m c ⊢ someOf c (stSrc c k) (stV m c k) := by
  unfold argOf someOf
  iintro ⟨%q, H⟩
  iexists q
  ihave H := (Entails.of_eq (owns_whole (c : Thread nD τ) main_arg0 q (argV m c))) $$ H
  iapply (owns_intro (c : Thread nD τ) (stSrc c k) q (argV m c))
  ihave H := (pointsTo_split_subset (Finset.subset_univ (stSrc c k).view.set)).1 $$ H
  icases H with ⟨H, -⟩
  iexact H

theorem arg_lo (c : Dev nD) : argOf m c ⊢ someOf c (loSrc c) (loV m c) := by
  unfold argOf someOf
  iintro ⟨%q, H⟩
  iexists q
  ihave H := (Entails.of_eq (owns_whole (c : Thread nD τ) main_arg0 q (argV m c))) $$ H
  iapply (owns_intro (c : Thread nD τ) (loSrc c) q (argV m c))
  ihave H := (pointsTo_split_subset (Finset.subset_univ (loSrc c).view.set)).1 $$ H
  icases H with ⟨H, -⟩
  iexact H

end Cert.KernelIdeal

end
-- ==== Proof.Head.lean ====
/- The run of the body on one device, part by part. -/
module

public import proofs.«01_k».proof.Proof.Split

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## What is sent, by what is held -/

section
variable (c : Dev nD)

theorem src_y (k : Fin 8) : (ownsTc c (ysM.slice (ysR ⟨k.val, by omega⟩) (fun _ => rfl)) fullShare (ysV m c ⟨k.val, by omega⟩) : sProp 𝕄)
    = ownsTc c (srcM (.y k)) (shr (.y k)) (tv m (peer (.y k) c) (.y k)) := by
  show _ = ownsTc c (srcM (.y k)) fullShare (ysV m (nb 0 (nb 0 c)) ⟨k.val, _⟩)
  rw [nb_nb]; rfl

theorem src_w (k : Fin 2) : (ownsTc c (ysM.slice (ysR ⟨8 + k.val, by omega⟩) (fun _ => rfl)) fullShare (ysV m c ⟨8 + k.val, by omega⟩) : sProp 𝕄)
    = ownsTc c (srcM (.w k)) (shr (.w k)) (tv m (peer (.w k) c) (.w k)) := by
  show _ = ownsTc c (chunk ysM (1024 + 128 * k.val) (oIn2y k)) fullShare (ysV m (nb 0 (nb 0 c)) ⟨8 + k.val, _⟩)
  rw [nb_nb, chunk_congr ysM (show 1024 + 128 * k.val = 128 * (8 + k.val) by omega) _ (by omega)]

theorem src_x (k : Fin 8) : (ownsTc c (dstM (.y k)) fullShare.left (tv m c (.y k)) : sProp 𝕄)
    = ownsTc c (srcM (.x k)) (shr (.x k)) (tv m (peer (.x k) c) (.x k)) := by
  show _ = ownsTc c (srcM (.x k)) fullShare.left (ysV m (nb 0 (nb 1 (nb 1 c))) ⟨k.val, _⟩)
  rw [nb_nb]; rfl

theorem src_z (k : Fin 8) : (ownsTc c (dstM (.y k)) fullShare.right.left (tv m c (.y k)) : sProp 𝕄)
    = ownsTc c (srcM (.z k)) (shr (.z k)) (tv m (peer (.z k) c) (.z k)) := by
  show _ = ownsTc c (srcM (.z k)) fullShare.right.left (ysV m (nb 0 (nb 2 (nb 2 c))) ⟨k.val, _⟩)
  rw [nb_nb]; rfl

theorem src_a (k : Fin 3) : (ownsTc c (dstM (.z ⟨2 + k.val, by omega⟩)) fullShare.left (tv m c (.z ⟨2 + k.val, by omega⟩)) : sProp 𝕄)
    = ownsTc c (srcM (.a k)) (shr (.a k)) (tv m (peer (.a k) c) (.a k)) := by
  show _ = ownsTc c (chunk zdM (256 + 128 * k.val) (oIn3z k)) fullShare.left (ysV m (nb 0 (nb 2 (nb 1 (nb 1 c)))) ⟨2 + k.val, _⟩)
  rw [nb_nb, chunk_congr zdM (show 256 + 128 * k.val = 128 * (2 + k.val) by omega) _ (by omega)]; rfl

theorem src_b (k : Fin 3) : (ownsTc c (dstM (.x ⟨5 + k.val, by omega⟩)) fullShare.left (tv m c (.x ⟨5 + k.val, by omega⟩)) : sProp 𝕄)
    = ownsTc c (srcM (.b k)) (shr (.b k)) (tv m (peer (.b k) c) (.b k)) := by
  show _ = ownsTc c (chunk xdM (640 + 128 * k.val) (oIn3x k)) fullShare.left (ysV m (nb 0 (nb 1 (nb 2 (nb 2 c)))) ⟨5 + k.val, _⟩)
  rw [nb_nb, chunk_congr xdM (show 640 + 128 * k.val = 128 * (5 + k.val) by omega) _ (by omega)]; rfl

/-! ## What is owed -/

abbrev pt (t : Tr) : Dev nD × Ck := (peer t c, .rcv t)

def d5 : Due := cL.map (fun i => pt c (.a i))
def d4 : Due := cL.map (fun i => pt c (.b i)) ++ d5 c
/-- The forwards of the chunks of a list. -/
def dxz (l : List (Fin 8)) : Due := l.flatMap fun k => [pt c (.x k), pt c (.z k)]
def d3 : Due := dxz c yL ++ d4 c
def d2 : Due := wL.map (fun k => pt c (.w k)) ++ d3 c
def d1 : Due := yL.map (fun k => pt c (.y k)) ++ d2 c
/-- Everything a device owes at the start, in the order it pays. -/
def d0 : Due := cL.map (fun i => (nb i c, Ck.bar)) ++ d1 c

/-- Every due of a list is of a level above `n`. -/
def above (n : ℕ) (ps : Due) : Prop := ∀ p ∈ ps, n < klev p.2

theorem above_append {n : ℕ} {ps qs : Due} (h : above n ps) (h' : above n qs) : above n (ps ++ qs) := fun p hp =>
  (List.mem_append.mp hp).elim (h p) (h' p)

theorem above_map {n : ℕ} {ι : Type} (l : List ι) (f : ι → Dev nD × Ck) (h : ∀ i, n < klev (f i).2) : above n (l.map f) := fun p hp => by
  obtain ⟨i, -, rfl⟩ := List.mem_map.mp hp; exact h i

theorem above_mono {n n' : ℕ} {ps : Due} (h : above n ps) (hn : n' ≤ n) : above n' ps := fun p hp => lt_of_le_of_lt hn (h p hp)

theorem above_d5 : above 3 (d5 c) := above_map _ _ fun _ => by show 3 < 4; omega
theorem above_d4 : above 3 (d4 c) := above_append (above_map _ _ fun _ => by show 3 < 4; omega) (above_d5 c)
theorem above_dxz (l : List (Fin 8)) : above 2 (dxz c l) := fun p hp => by
  obtain ⟨k, -, hk⟩ := List.mem_flatMap.mp hp
  rcases List.mem_cons.mp hk with rfl | hk
  · show 2 < 3; omega
  · rw [List.mem_singleton.mp hk]; show 2 < 3; omega
theorem above_d3 : above 2 (d3 c) := above_append (above_dxz c _) (above_mono (above_d4 c) (by omega))
theorem above_d2 : above 1 (d2 c) := above_append (above_map _ _ fun _ => by show 1 < 2; omega) (above_mono (above_d3 c) (by omega))
theorem above_d1 : above 1 (d1 c) := above_append (above_map _ _ fun _ => by show 1 < 2; omega) (above_d2 c)

/-! ## What is held between the parts -/

/-- The rights a remote copy uses. -/
abbrev tks (t : Tr) : sProp 𝕄 := iprop(tok c (.snd t) ∗ tok (peer t c) (.rcv t))
/-- Where a remote copy lands, held by the sender. -/
abbrev land (t : Tr) : sProp 𝕄 := anyOf (F := F) (peer t c) (dstM t) fullShare
/-- A chunk of the send buffer. -/
abbrev ysAny (k : Fin 10) : sProp 𝕄 := anyOf (F := F) c (ysM.slice (ysR k) (fun _ => rfl)) fullShare
/-- A chunk of the stage buffer, copied in and done with. -/
abbrev stDone (k : Fin 10) : sProp 𝕄 := iprop(ownsTc c (stDst k) fullShare (stV m c k) ∗ zero c (.st k))

end

theorem someOf_elim (c : Dev nD) {sp : Space} {s : Shape} {e : EltTy} (M : Memref sig .tc sp s e) (v : s.Idx → Elt F e) :
    someOf c M v ⊢ (iprop(∃ q, ownsTc (Val := Elt F) c M q v) : sProp 𝕄) := .rfl

theorem sL_split (Φ : Fin 10 → sProp 𝕄) : bigSepL sL Φ
    = iprop(bigSepL yL (fun k => Φ ⟨k.val, by omega⟩) ∗ bigSepL wL (fun k => Φ ⟨8 + k.val, by omega⟩)) := by
  rw [show sL = yL.map (fun k => (⟨k.val, by omega⟩ : Fin 10)) ++ wL.map (fun k => (⟨8 + k.val, by omega⟩ : Fin 10)) from rfl, bigSepL_append, bigSepL_map, bigSepL_map]

/-- What goes along the three axes, by the six kinds of copies. -/
theorem dir_split (Φ : Fin 3 → Tr → sProp 𝕄) : (bigSepL cL fun i => bigSepL (dirL i) (Φ i))
    = iprop(((bigSepL yL fun k => Φ 0 (.y k)) ∗ (bigSepL wL fun k => Φ 0 (.w k))) ∗ ((bigSepL yL fun k => Φ 1 (.x k)) ∗ (bigSepL cL fun k => Φ 1 (.a k)))
      ∗ ((bigSepL yL fun k => Φ 2 (.z k)) ∗ (bigSepL cL fun k => Φ 2 (.b k)))) := by
  rw [show (cL : List (Fin 3)) = 0 :: 1 :: [2] from rfl, bigSepL_cons', bigSepL_cons', bigSepL_singleton, show dirL 0 = yL.map .y ++ wL.map .w from rfl, show dirL 1 = yL.map .x ++ cL.map .a from rfl,
    show dirL 2 = yL.map .z ++ cL.map .b from rfl, bigSepL_append, bigSepL_append, bigSepL_append,
    bigSepL_map, bigSepL_map, bigSepL_map, bigSepL_map, bigSepL_map, bigSepL_map]

/-! ## The head -/

theorem run_head (c : Dev nD) (Q : PUnit → sProp 𝕄) (kk : PP F) :
    iprop(facts m K ∗ ow c (d0 c)
        ∗ (bigSepL cL fun i => iprop(dutyTok ER (cell (nb i c) .bar) 0 i ∗ bigSepL (dirL i) fun t => anyOf (F := F) c (dstM t) fullShare))
        ∗ (pos c .bar ∗ crd c .bar) ∗ argOf m c
        ∗ (bigSepL sL fun k => anyOf (F := F) c (stDst k) fullShare) ∗ (bigSepL sL fun k => tok c (.st k)) ∗ (bigSepL sL fun k => pos c (.st k))
        ∗ (anyOf (F := F) c locM fullShare ∗ tok c .loc) ∗ (bigSepL sL fun k => ysAny (F := F) c k)
        ∗ (bigSepL yL fun k => tks (F := F) c (.y k)) ∗ (bigSepL wL fun k => tks (F := F) c (.w k)))
      ⊢ iprop((iprop((argOf m c ∗ zero c .bar ∗ crd c .loc)
              ∗ (bigSepL yL fun k => stDone m c ⟨k.val, by omega⟩) ∗ (bigSepL wL fun k => stDone m c ⟨8 + k.val, by omega⟩)
              ∗ (bigSepL yL fun k => crd c (.snd (.y k))) ∗ (bigSepL wL fun k => crd c (.snd (.w k)))
              ∗ (bigSepL yL fun k => land (F := F) c (.x k)) ∗ (bigSepL cL fun k => land (F := F) c (.a k))
              ∗ (bigSepL yL fun k => land (F := F) c (.z k)) ∗ (bigSepL cL fun k => land (F := F) c (.b k)) ∗ ow c (d3 c)) -∗ WP c kk Q)
          -∗ WP c (head c kk) Q) := by
  iintro ⟨#HF, HO, Hbt, ⟨Hbp, Hbc⟩, Harg, Hst, Hstt, Hstp, ⟨Hloc, Hlt⟩, Hys, Hty, Htw⟩ Hk
  unfold head
  -- the barrier
  iapply (wp_each c Q (facts m K) (sigStep c) (fun i => iprop(dutyTok ER (cell (nb i c) .bar) 0 i ∗ bigSepL (dirL i) fun t => anyOf (F := F) c (dstM t) fullShare))
    (fun _ => iprop(emp)) (fun l => ow c (l.map (fun i => (nb i c, Ck.bar)) ++ d1 c)) cL (fun i _ l' kk => wp_sig m K c Q i _ kk)) $$ [Hbt HO]
  · isplitr; · iexact HF
    isplitl [Hbt]; · iexact Hbt
    iexact HO
  iintro ⟨-, HO⟩
  iapply (wp_bar m K c Q (d1 c) (above_d1 c)) $$ [Hbp Hbc HO]
  · isplitr; · iexact HF
    isplitl [Hbp]; · iexact Hbp
    isplitl [Hbc]; · iexact Hbc
    iexact HO
  iintro ⟨Hl, Hbz, HO⟩
  ihave Hl := (Entails.of_eq (dir_split fun i t => anyOf (F := F) (nb i c) (dstM t) fullShare)) $$ Hl
  icases Hl with ⟨⟨Hly, Hlw⟩, ⟨Hlx, Hla⟩, Hlz, Hlb⟩
  -- the copies in
  ihave Harg := (arg_many m c sL) $$ Harg
  icases Harg with ⟨Harg, Hargs⟩
  ihave Harg := (arg_two m c) $$ Harg
  icases Harg with ⟨Harg, Harg'⟩
  iapply (wp_each c Q (facts m K) (stStart c) (fun k => iprop(argOf m c ∗ anyOf (F := F) c (stDst k) fullShare ∗ tok c (.st k)))
    (fun k => crd c (.st k)) (fun _ => iprop(emp)) sL (fun k _ l' kk => by
      iintro ⟨#HF, ⟨Ha, Hd, Ht⟩, -⟩ Hk
      ihave Ha := (arg_st m c k) $$ Ha
      ihave Ha := (someOf_elim c _ _) $$ Ha
      icases Ha with ⟨%q, Ha⟩
      iapply (wp_stStart m K c Q q k kk) $$ [Ha Hd Ht]
      · isplitr; · iexact HF
        isplitl [Ha Hd Ht]
        · isplitl [Ha]; · iexact Ha
          isplitl [Hd] <;> iassumption
        · iempintro
      iexact Hk)) $$ [Hargs Hst Hstt]
  · isplitr; · iexact HF
    isplitl [Hargs Hst Hstt]
    · iapply (bigSepL_sep sL _ _).2
      isplitl [Hargs]; · iexact Hargs
      iapply (bigSepL_sep sL _ _).2
      isplitl [Hst] <;> iassumption
    · iempintro
  iintro ⟨Hstc, -⟩
  ihave Harg' := (arg_lo m c) $$ Harg'
  ihave Harg' := (someOf_elim c _ _) $$ Harg'
  icases Harg' with ⟨%q, Harg'⟩
  iapply (wp_loStart m K c Q q) $$ [Harg' Hloc Hlt]
  · isplitr; · iexact HF
    isplitl [Harg']; · iexact Harg'
    isplitl [Hloc] <;> iassumption
  iintro Hlc
  ihave Hs := (Entails.of_eq (sL_split fun k => pos c (.st k))) $$ Hstp
  icases Hs with ⟨Hpy, Hpw⟩
  ihave Hs := (Entails.of_eq (sL_split fun k => crd c (.st k))) $$ Hstc
  icases Hs with ⟨Hcy, Hcw⟩
  ihave Hs := (Entails.of_eq (sL_split fun k => ysAny (F := F) c k)) $$ Hys
  icases Hs with ⟨Hyy, Hyw⟩
  -- the quarter sent to the y peer
  iapply (wp_each c Q (facts m K) (fun k q => cvtStep c ⟨k.val, by omega⟩ <| sendStep c (.y k) q)
    (fun k => iprop((pos c (.st ⟨k.val, by omega⟩) ∗ crd c (.st ⟨k.val, by omega⟩) ∗ ysAny (F := F) c ⟨k.val, by omega⟩)
      ∗ land (F := F) c (.y k) ∗ tks (F := F) c (.y k)))
    (fun k => iprop(stDone m c ⟨k.val, by omega⟩ ∗ crd c (.snd (.y k)))) (fun l => ow c (l.map (fun k => pt c (.y k)) ++ d2 c)) yL (fun k _ l' kk => by
      iintro ⟨#HF, ⟨Ha, Hl, Ht1, Ht2⟩, HO⟩ Hk
      iapply (wp_cvt m K c Q _ ((k :: l').map (fun k => pt c (.y k)) ++ d2 c)
        (above_mono (above_append (above_map _ _ fun _ => by show 1 < 2; omega) (above_d2 c)) (Nat.zero_le 1))) $$ [Ha HO]
      · isplitr; · iexact HF
        isplitl [Ha] <;> iassumption
      iintro ⟨Hy, Hs, HO⟩
      iapply (wp_sendTo m K c Q (.y k) (l'.map (fun k => pt c (.y k)) ++ d2 c)) $$ [Hy Hl Ht1 Ht2 HO]
      · isplitr; · iexact HF
        isplitr [HO]
        · isplitl [Hy]; · iapply (Entails.of_eq (src_y m c k)); iexact Hy
          isplitl [Hl]; · iexact Hl
          isplitl [Ht1] <;> iassumption
        · iexact HO
      iintro ⟨Hc, HO⟩
      iapply Hk
      isplitr [HO]
      · isplitl [Hs] <;> iassumption
      iexact HO)) $$ [Hpy Hcy Hyy Hly Hty HO]
  · isplitr; · iexact HF
    isplitr [HO]
    · iapply (bigSepL_sep yL _ _).2
      isplitl [Hpy Hcy Hyy]
      · iapply (bigSepL_sep yL _ _).2
        isplitl [Hpy]; · iexact Hpy
        iapply (bigSepL_sep yL _ _).2
        isplitl [Hcy]; · iexact Hcy
        iexact Hyy
      · iapply (bigSepL_sep yL _ _).2
        isplitl [Hly]; · iexact Hly
        iexact Hty
    · iexact HO
  iintro ⟨Hp, HO⟩
  ihave Hp := (bigSepL_sep yL _ _).1 $$ Hp
  icases Hp with ⟨Hsy, Hcsy⟩
  -- the two extra chunks
  iapply (wp_each c Q (facts m K) (fun k q => cvtStep c ⟨8 + k.val, by omega⟩ <| sendStep c (.w k) q)
    (fun k => iprop((pos c (.st ⟨8 + k.val, by omega⟩) ∗ crd c (.st ⟨8 + k.val, by omega⟩) ∗ ysAny (F := F) c ⟨8 + k.val, by omega⟩)
      ∗ land (F := F) c (.w k) ∗ tks (F := F) c (.w k)))
    (fun k => iprop(stDone m c ⟨8 + k.val, by omega⟩ ∗ crd c (.snd (.w k)))) (fun l => ow c (l.map (fun k => pt c (.w k)) ++ d3 c)) wL (fun k _ l' kk => by
      iintro ⟨#HF, ⟨Ha, Hl, Ht1, Ht2⟩, HO⟩ Hk
      iapply (wp_cvt m K c Q _ ((k :: l').map (fun k => pt c (.w k)) ++ d3 c)
        (above_mono (above_append (above_map _ _ fun _ => by show 1 < 2; omega) (above_mono (above_d3 c) (by omega))) (Nat.zero_le 1))) $$ [Ha HO]
      · isplitr; · iexact HF
        isplitl [Ha] <;> iassumption
      iintro ⟨Hy, Hs, HO⟩
      iapply (wp_sendTo m K c Q (.w k) (l'.map (fun k => pt c (.w k)) ++ d3 c)) $$ [Hy Hl Ht1 Ht2 HO]
      · isplitr; · iexact HF
        isplitr [HO]
        · isplitl [Hy]; · iapply (Entails.of_eq (src_w m c k)); iexact Hy
          isplitl [Hl]; · iexact Hl
          isplitl [Ht1] <;> iassumption
        · iexact HO
      iintro ⟨Hc, HO⟩
      iapply Hk
      isplitr [HO]
      · isplitl [Hs] <;> iassumption
      iexact HO)) $$ [Hpw Hcw Hyw Hlw Htw HO]
  · isplitr; · iexact HF
    isplitr [HO]
    · iapply (bigSepL_sep wL _ _).2
      isplitl [Hpw Hcw Hyw]
      · iapply (bigSepL_sep wL _ _).2
        isplitl [Hpw]; · iexact Hpw
        iapply (bigSepL_sep wL _ _).2
        isplitl [Hcw]; · iexact Hcw
        iexact Hyw
      · iapply (bigSepL_sep wL _ _).2
        isplitl [Hlw]; · iexact Hlw
        iexact Htw
    · iexact HO
  iintro ⟨Hp, HO⟩
  ihave Hp := (bigSepL_sep wL _ _).1 $$ Hp
  icases Hp with ⟨Hsw, Hcsw⟩
  iapply Hk
  isplitl [Harg Hbz Hlc]
  · isplitl [Harg]; · iexact Harg
    isplitl [Hbz] <;> iassumption
  isplitl [Hsy]; · iexact Hsy
  isplitl [Hsw]; · iexact Hsw
  isplitl [Hcsy]; · iexact Hcsy
  isplitl [Hcsw]; · iexact Hcsw
  isplitl [Hlx]; · iexact Hlx
  isplitl [Hla]; · iexact Hla
  isplitl [Hlz]; · iexact Hlz
  isplitl [Hlb]; · iexact Hlb
  iexact HO

end Cert.KernelIdeal

end
-- ==== Proof.Fwds.lean ====
/- The forwards and relays of the body on one device. -/
module

public import proofs.«01_k».proof.Proof.Head

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## The forwards and relays -/

/-- What the wait for an arrival uses. -/
abbrev inn (c : Dev nD) (t : Tr) : sProp 𝕄 := iprop(pos c (.rcv t) ∗ crd c (.rcv t))

theorem dxz_cons (c : Dev nD) (k : Fin 8) (l : List (Fin 8)) : dxz c (k :: l) = pt c (.x k) :: pt c (.z k) :: dxz c l := rfl

/-- Three arrived chunks relayed: each waited for, half of it sent on, half kept. -/
theorem run_relay (c : Dev nD) (Q : PUnit → sProp 𝕄) (f g : Fin 3 → Tr)
    (hs : ∀ i, (ownsTc c (dstM (f i)) fullShare.left (tv m c (f i)) : sProp 𝕄) = ownsTc c (srcM (g i)) (shr (g i)) (tv m (peer (g i) c) (g i)))
    (rest : Due) (h : ∀ i j, klev (.rcv (f i)) < klev (.rcv (g j))) (hr : ∀ i, above (klev (.rcv (f i))) rest) (kk : PP F) :
    iprop(facts m K ∗ ow c (cL.map (fun i => pt c (g i)) ++ rest) ∗ (bigSepL cL fun i => inn (F := F) c (f i)) ∗ (bigSepL cL fun i => land (F := F) c (g i))
        ∗ (bigSepL cL fun i => tks (F := F) c (g i)))
      ⊢ iprop((iprop((bigSepL cL fun i => ownsTc c (dstM (f i)) fullShare.right (tv m c (f i))) ∗ (bigSepL cL fun i => zero c (.rcv (f i)))
              ∗ (bigSepL cL fun i => crd c (.snd (g i))) ∗ ow c rest) -∗ WP c kk Q)
          -∗ WP c (each cL (fun i q => rcvStep (f i) <| sendStep c (g i) q) kk) Q) := by
  iintro ⟨#HF, HO, Hi, Hl, Ht⟩ Hk
  iapply (wp_each c Q (facts m K) (fun i q => rcvStep (f i) <| sendStep c (g i) q)
    (fun i => iprop(inn (F := F) c (f i) ∗ land (F := F) c (g i) ∗ tks (F := F) c (g i)))
    (fun i => iprop(ownsTc c (dstM (f i)) fullShare.right (tv m c (f i)) ∗ zero c (.rcv (f i)) ∗ crd c (.snd (g i))))
    (fun l => ow c (l.map (fun i => pt c (g i)) ++ rest)) cL (fun i _ l' kk => by
      iintro ⟨#HF, ⟨Hi, Hl, Ht1, Ht2⟩, HO⟩ Hk
      iapply (wp_rcv m K c Q (f i) ((i :: l').map (fun i => pt c (g i)) ++ rest) (above_append (above_map _ _ fun j => h i j) (hr i))) $$ [Hi HO]
      · isplitr; · iexact HF
        isplitl [Hi] <;> iassumption
      iintro ⟨⟨Hd, Hz⟩, HO⟩
      ihave Hd := (owns_halves (c : Thread nD τ) (dstM (f i)) fullShare (tv m c (f i))).1 $$ Hd
      icases Hd with ⟨Hd, Hd'⟩
      iapply (wp_sendTo m K c Q (g i) (l'.map (fun i => pt c (g i)) ++ rest)) $$ [Hd Hl Ht1 Ht2 HO]
      · isplitr; · iexact HF
        isplitr [HO]
        · isplitl [Hd]; · iapply (Entails.of_eq (hs i)); iexact Hd
          isplitl [Hl]; · iexact Hl
          isplitl [Ht1] <;> iassumption
        · iexact HO
      iintro ⟨Hc, HO⟩
      iapply Hk
      isplitr [HO]
      · isplitl [Hd']; · iexact Hd'
        isplitl [Hz] <;> iassumption
      iexact HO)) $$ [Hi Hl Ht HO]
  · isplitr; · iexact HF
    isplitr [HO]
    · iapply (bigSepL_sep cL _ _).2
      isplitl [Hi]; · iexact Hi
      iapply (bigSepL_sep cL _ _).2
      isplitl [Hl] <;> iassumption
    · iexact HO
  iintro ⟨Hp, HO⟩
  ihave Hp := (bigSepL_sep cL _ _).1 $$ Hp
  icases Hp with ⟨Hd, Hp⟩
  ihave Hp := (bigSepL_sep cL _ _).1 $$ Hp
  icases Hp with ⟨Hz, Hc⟩
  iapply Hk
  isplitl [Hd]; · iexact Hd
  isplitl [Hz]; · iexact Hz
  isplitl [Hc]; · iexact Hc
  iexact HO

theorem run_fwds (c : Dev nD) (Q : PUnit → sProp 𝕄) (kk : PP F) :
    iprop(facts m K ∗ ow c (d3 c) ∗ (bigSepL yL fun k => inn (F := F) c (.y k))
        ∗ ((bigSepL yL fun k => land (F := F) c (.x k)) ∗ (bigSepL yL fun k => land (F := F) c (.z k))
          ∗ (bigSepL yL fun k => tks (F := F) c (.x k)) ∗ (bigSepL yL fun k => tks (F := F) c (.z k)))
        ∗ ((bigSepL cL fun i => inn (F := F) c (.x ⟨5 + i.val, by omega⟩)) ∗ (bigSepL cL fun i => land (F := F) c (.b i)) ∗ (bigSepL cL fun i => tks (F := F) c (.b i)))
        ∗ ((bigSepL cL fun i => inn (F := F) c (.z ⟨2 + i.val, by omega⟩)) ∗ (bigSepL cL fun i => land (F := F) c (.a i)) ∗ (bigSepL cL fun i => tks (F := F) c (.a i))))
      ⊢ iprop((iprop(((bigSepL yL fun k => ownsTc c (dstM (.y k)) fullShare.right.right (tv m c (.y k))) ∗ (bigSepL yL fun k => zero c (.rcv (.y k)))
                ∗ (bigSepL yL fun k => crd c (.snd (.x k))) ∗ (bigSepL yL fun k => crd c (.snd (.z k))))
              ∗ ((bigSepL cL fun i => ownsTc c (dstM (.x ⟨5 + i.val, by omega⟩)) fullShare.right (tv m c (.x ⟨5 + i.val, by omega⟩)))
                ∗ (bigSepL cL fun i => zero c (.rcv (.x ⟨5 + i.val, by omega⟩))) ∗ (bigSepL cL fun i => crd c (.snd (.b i))))
              ∗ ((bigSepL cL fun i => ownsTc c (dstM (.z ⟨2 + i.val, by omega⟩)) fullShare.right (tv m c (.z ⟨2 + i.val, by omega⟩)))
                ∗ (bigSepL cL fun i => zero c (.rcv (.z ⟨2 + i.val, by omega⟩))) ∗ (bigSepL cL fun i => crd c (.snd (.a i))))
              ∗ ow c []) -∗ WP c kk Q)
          -∗ WP c (fwds c kk) Q) := by
  iintro ⟨#HF, HO, Hy, ⟨Hlx, Hlz, Htx, Htz⟩, ⟨Hix, Hlb, Htb⟩, Hiz, Hla, Hta⟩ Hk
  unfold fwds
  iapply (wp_each c Q (facts m K) (fun k q => rcvStep (.y k) <| sendStep c (.x k) <| sendStep c (.z k) q)
    (fun k => iprop(inn (F := F) c (.y k) ∗ (land (F := F) c (.x k) ∗ land (F := F) c (.z k)) ∗ tks (F := F) c (.x k) ∗ tks (F := F) c (.z k)))
    (fun k => iprop(ownsTc c (dstM (.y k)) fullShare.right.right (tv m c (.y k)) ∗ zero c (.rcv (.y k)) ∗ crd c (.snd (.x k)) ∗ crd c (.snd (.z k))))
    (fun l => ow c (dxz c l ++ d4 c)) yL (fun k _ l' kk => by
      iintro ⟨#HF, ⟨Hi, ⟨Hlx, Hlz⟩, ⟨Hx1, Hx2⟩, Hz1, Hz2⟩, HO⟩ Hk
      iapply (wp_rcv m K c Q (.y k) (dxz c (k :: l') ++ d4 c) (above_append (above_dxz c _) (above_mono (above_d4 c) (by show 2 ≤ 3; omega)))) $$ [Hi HO]
      · isplitr; · iexact HF
        isplitl [Hi] <;> iassumption
      iintro ⟨⟨Hd, Hz⟩, HO⟩
      ihave Hd := (owns_halves (c : Thread nD τ) (dstM (.y k)) fullShare (tv m c (.y k))).1 $$ Hd
      icases Hd with ⟨Hdx, Hd⟩
      ihave Hd := (owns_halves (c : Thread nD τ) (dstM (.y k)) fullShare.right (tv m c (.y k))).1 $$ Hd
      icases Hd with ⟨Hdz, Hd⟩
      iapply (wp_sendTo m K c Q (.x k) (pt c (.z k) :: (dxz c l' ++ d4 c))) $$ [Hdx Hlx Hx1 Hx2 HO]
      · isplitr; · iexact HF
        isplitr [HO]
        · isplitl [Hdx]; · iapply (Entails.of_eq (src_x m c k)); iexact Hdx
          isplitl [Hlx]; · iexact Hlx
          isplitl [Hx1] <;> iassumption
        · iexact HO
      iintro ⟨Hcx, HO⟩
      iapply (wp_sendTo m K c Q (.z k) (dxz c l' ++ d4 c)) $$ [Hdz Hlz Hz1 Hz2 HO]
      · isplitr; · iexact HF
        isplitr [HO]
        · isplitl [Hdz]; · iapply (Entails.of_eq (src_z m c k)); iexact Hdz
          isplitl [Hlz]; · iexact Hlz
          isplitl [Hz1] <;> iassumption
        · iexact HO
      iintro ⟨Hcz, HO⟩
      iapply Hk
      isplitr [HO]
      · isplitl [Hd]; · iexact Hd
        isplitl [Hz]; · iexact Hz
        isplitl [Hcx] <;> iassumption
      iexact HO)) $$ [Hy Hlx Hlz Htx Htz HO]
  · isplitr; · iexact HF
    isplitr [HO]
    · iapply (bigSepL_sep yL _ _).2
      isplitl [Hy]; · iexact Hy
      iapply (bigSepL_sep yL _ _).2
      isplitl [Hlx Hlz]
      · iapply (bigSepL_sep yL _ _).2
        isplitl [Hlx] <;> iassumption
      · iapply (bigSepL_sep yL _ _).2
        isplitl [Htx] <;> iassumption
    · iexact HO
  iintro ⟨Hp, HO⟩
  ihave Hp := (bigSepL_sep yL _ _).1 $$ Hp
  icases Hp with ⟨Hd, Hp⟩
  ihave Hp := (bigSepL_sep yL _ _).1 $$ Hp
  icases Hp with ⟨Hz, Hp⟩
  ihave Hp := (bigSepL_sep yL _ _).1 $$ Hp
  icases Hp with ⟨Hcx, Hcz⟩
  iapply (run_relay m K c Q (fun i => .x ⟨5 + i.val, by omega⟩) (fun i => .b i) (src_b m c) (d5 c) (fun _ _ => by show 3 < 4; omega) (fun _ => above_d5 c)) $$ [HO Hix Hlb Htb]
  · isplitr; · iexact HF
    isplitl [HO]; · iexact HO
    isplitl [Hix]; · iexact Hix
    isplitl [Hlb] <;> iassumption
  iintro ⟨Hxd, Hxz, Hxc, HO⟩
  iapply (run_relay m K c Q (fun i => .z ⟨2 + i.val, by omega⟩) (fun i => .a i) (src_a m c) [] (fun _ _ => by show 3 < 4; omega) (fun _ p hp => absurd hp (by simp))) $$ [HO Hiz Hla Hta]
  · isplitr; · iexact HF
    isplitl [HO]; · iexact HO
    isplitl [Hiz]; · iexact Hiz
    isplitl [Hla] <;> iassumption
  iintro ⟨Hzd, Hzz, Hzc, HO⟩
  iapply Hk
  isplitl [Hd Hz Hcx Hcz]
  · isplitl [Hd]; · iexact Hd
    isplitl [Hz]; · iexact Hz
    isplitl [Hcx] <;> iassumption
  isplitl [Hxd Hxz Hxc]
  · isplitl [Hxd]; · iexact Hxd
    isplitl [Hxz] <;> iassumption
  isplitl [Hzd Hzz Hzc]
  · isplitl [Hzd]; · iexact Hzd
    isplitl [Hzz] <;> iassumption
  iexact HO

end Cert.KernelIdeal

end
-- ==== Proof.Adds.lean ====
/- The additions of the body on one device, and its last waits. -/
module

public import proofs.«01_k».proof.Proof.Fwds

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## Arrivals and blocks -/

theorem run_arr (c : Dev nD) (Q : PUnit → sProp 𝕄) {ι : Type} (l : List ι) (f : ι → Tr) (kk : PP F) :
    iprop(facts m K ∗ (bigSepL l fun i => inn (F := F) c (f i)) ∗ ow c [])
      ⊢ iprop((iprop((bigSepL l fun i => ownsTc c (dstM (f i)) fullShare (tv m c (f i))) ∗ (bigSepL l fun i => zero c (.rcv (f i))) ∗ ow c []) -∗ WP c kk Q)
          -∗ WP c (each l (fun i => rcvStep (f i)) kk) Q) := by
  iintro ⟨#HF, Hi, HO⟩ Hk
  iapply (wp_each c Q (facts m K) (fun i => rcvStep (f i)) (fun i => inn (F := F) c (f i))
    (fun i => iprop(ownsTc c (dstM (f i)) fullShare (tv m c (f i)) ∗ zero c (.rcv (f i)))) (fun _ => ow c []) l
    (fun i _ l' kk => wp_rcv m K c Q (f i) [] (by simp) kk)) $$ [Hi HO]
  · isplitr; · iexact HF
    isplitl [Hi] <;> iassumption
  iintro ⟨Hp, HO⟩
  ihave Hp := (bigSepL_sep l _ _).1 $$ Hp
  icases Hp with ⟨Hd, Hz⟩
  iapply Hk
  isplitl [Hd]; · iexact Hd
  isplitl [Hz] <;> iassumption

/-- Chunks halved. -/
theorem chunks_halve (c : Dev nD) {ι : Type} (l : List ι) (f : ι → Tr) (q : PosShare TreeShare) :
    (bigSepL l fun i => ownsTc c (dstM (f i)) q (tv m c (f i)))
      ⊣⊢ (iprop((bigSepL l fun i => ownsTc c (dstM (f i)) q.left (tv m c (f i))) ∗ bigSepL l fun i => ownsTc c (dstM (f i)) q.right (tv m c (f i))) : sProp 𝕄) :=
  ⟨(bigSepL_mono fun i _ => (owns_halves (c : Thread nD τ) (dstM (f i)) q (tv m c (f i))).1).trans (bigSepL_sep l _ _).1,
    (bigSepL_sep l _ _).2.trans (bigSepL_mono fun i _ => (owns_halves (c : Thread nD τ) (dstM (f i)) q (tv m c (f i))).2)⟩

abbrev xL' : List (Fin 8) := xL ++ cL.map fun i => ⟨5 + i.val, by omega⟩
abbrev zL' : List (Fin 8) := zL ++ cL.map fun i => ⟨2 + i.val, by omega⟩

section
variable (c : Dev nD) (q : PosShare TreeShare)

/-! The arrived rows a block adds are the arrived chunks. -/

theorem rcv_y : (ownsTc c (blk c 0).rcv q (rcvV m c 0) : sProp 𝕄) = ownsTc c ydM q (glue rfl fun k : Fin 8 => tv m c (.y k)) := rfl
theorem rcv_x : (ownsTc c (blk c 1).rcv q (rcvV m c 1) : sProp 𝕄) = ownsTc c xdM q (glue rfl fun k : Fin 8 => tv m c (.x k)) := rfl
theorem rcv_z : (ownsTc c (blk c 2).rcv q (rcvV m c 2) : sProp 𝕄) = ownsTc c zdM q (glue rfl fun k : Fin 8 => tv m c (.z k)) := rfl
theorem rcv_w : (ownsTc c (blk c 3).rcv q (rcvV m c 3) : sProp 𝕄) = ownsTc c yxM q (glue rfl fun k : Fin 2 => tv m c (.w k)) := rfl
theorem rcv_a : (ownsTc c (blk c 4).rcv q (rcvV m c 4) : sProp 𝕄) = ownsTc c daM q (glue rfl fun k : Fin 3 => tv m c (.a k)) := rfl
theorem rcv_b : (ownsTc c (blk c 5).rcv q (rcvV m c 5) : sProp 𝕄) = ownsTc c dbM q (glue rfl fun k : Fin 3 => tv m c (.b k)) := rfl

theorem join_y (l : List (Fin 8)) (hl : l.Nodup) (hm : ∀ k, k ∈ l) :
    (bigSepL l fun k => ownsTc c (dstM (.y k)) q (tv m c (.y k))) ⊢ (ownsTc c (blk c 0).rcv q (rcvV m c 0) : sProp 𝕄) := by
  rw [rcv_y]; exact chunks_join (R := 1024) (n := 8) rfl c ydM q l hl hm fun k => tv m c (.y k)
theorem join_x (l : List (Fin 8)) (hl : l.Nodup) (hm : ∀ k, k ∈ l) :
    (bigSepL l fun k => ownsTc c (dstM (.x k)) q (tv m c (.x k))) ⊢ (ownsTc c (blk c 1).rcv q (rcvV m c 1) : sProp 𝕄) := by
  rw [rcv_x]; exact chunks_join (R := 1024) (n := 8) rfl c xdM q l hl hm fun k => tv m c (.x k)
theorem join_z (l : List (Fin 8)) (hl : l.Nodup) (hm : ∀ k, k ∈ l) :
    (bigSepL l fun k => ownsTc c (dstM (.z k)) q (tv m c (.z k))) ⊢ (ownsTc c (blk c 2).rcv q (rcvV m c 2) : sProp 𝕄) := by
  rw [rcv_z]; exact chunks_join (R := 1024) (n := 8) rfl c zdM q l hl hm fun k => tv m c (.z k)
theorem join_w (l : List (Fin 2)) (hl : l.Nodup) (hm : ∀ k, k ∈ l) :
    (bigSepL l fun k => ownsTc c (dstM (.w k)) q (tv m c (.w k))) ⊢ (ownsTc c (blk c 3).rcv q (rcvV m c 3) : sProp 𝕄) := by
  rw [rcv_w]; exact chunks_join (R := 256) (n := 2) rfl c yxM q l hl hm fun k => tv m c (.w k)
theorem join_a (l : List (Fin 3)) (hl : l.Nodup) (hm : ∀ k, k ∈ l) :
    (bigSepL l fun k => ownsTc c (dstM (.a k)) q (tv m c (.a k))) ⊢ (ownsTc c (blk c 4).rcv q (rcvV m c 4) : sProp 𝕄) := by
  rw [rcv_a]; exact chunks_join (R := 384) (n := 3) rfl c daM q l hl hm fun k => tv m c (.a k)
theorem join_b (l : List (Fin 3)) (hl : l.Nodup) (hm : ∀ k, k ∈ l) :
    (bigSepL l fun k => ownsTc c (dstM (.b k)) q (tv m c (.b k))) ⊢ (ownsTc c (blk c 5).rcv q (rcvV m c 5) : sProp 𝕄) := by
  rw [rcv_b]; exact chunks_join (R := 384) (n := 3) rfl c dbM q l hl hm fun k => tv m c (.b k)

theorem cut_y (l : List (Fin 8)) (hl : l.Nodup) (hm : ∀ k, k ∈ l) :
    (ownsTc c (blk c 0).rcv q (rcvV m c 0) : sProp 𝕄) ⊢ bigSepL l fun k => ownsTc c (dstM (.y k)) q (tv m c (.y k)) := by
  rw [rcv_y]; exact chunks_cut (R := 1024) (n := 8) rfl c ydM q l hl hm fun k => tv m c (.y k)
theorem cut_x (l : List (Fin 8)) (hl : l.Nodup) (hm : ∀ k, k ∈ l) :
    (ownsTc c (blk c 1).rcv q (rcvV m c 1) : sProp 𝕄) ⊢ bigSepL l fun k => ownsTc c (dstM (.x k)) q (tv m c (.x k)) := by
  rw [rcv_x]; exact chunks_cut (R := 1024) (n := 8) rfl c xdM q l hl hm fun k => tv m c (.x k)
theorem cut_z (l : List (Fin 8)) (hl : l.Nodup) (hm : ∀ k, k ∈ l) :
    (ownsTc c (blk c 2).rcv q (rcvV m c 2) : sProp 𝕄) ⊢ bigSepL l fun k => ownsTc c (dstM (.z k)) q (tv m c (.z k)) := by
  rw [rcv_z]; exact chunks_cut (R := 1024) (n := 8) rfl c zdM q l hl hm fun k => tv m c (.z k)

end

theorem xL_split (Φ : Fin 8 → sProp 𝕄) : bigSepL xL' Φ = iprop(bigSepL xL Φ ∗ bigSepL cL fun i => Φ ⟨5 + i.val, by omega⟩) := by
  rw [bigSepL_append, bigSepL_map]
theorem zL_split (Φ : Fin 8 → sProp 𝕄) : bigSepL zL' Φ = iprop(bigSepL zL Φ ∗ bigSepL cL fun i => Φ ⟨2 + i.val, by omega⟩) := by
  rw [bigSepL_append, bigSepL_map]

theorem oL_split (Φ : Fin 6 → sProp 𝕄) : bigSepL oL Φ = iprop(Φ 0 ∗ Φ 1 ∗ Φ 2 ∗ Φ 3 ∗ Φ 4 ∗ Φ 5) := by
  rw [show (oL : List (Fin 6)) = 0 :: 1 :: 2 :: 3 :: 4 :: [5] from rfl, bigSepL_cons', bigSepL_cons', bigSepL_cons', bigSepL_cons', bigSepL_cons', bigSepL_singleton]

/-- What one block's addition uses. -/
abbrev ob (c : Dev nD) (b : Fin 6) : sProp 𝕄 :=
  iprop(anyOf (F := F) c (blk c b).src fullShare ∗ anyOf (F := F) c (blk c b).dst fullShare ∗ tok c (.oc b))

theorem run_add (c : Dev nD) (Q : PUnit → sProp 𝕄) (b : Fin 6) (q : PosShare TreeShare) (kk : PP F) :
    iprop(facts m K ∗ ownsTc c locM fullShare (loV m c) ∗ ownsTc c (blk c b).rcv q (rcvV m c b) ∗ ob (F := F) c b)
      ⊢ iprop((iprop(ownsTc c locM fullShare (loV m c) ∗ ownsTc c (blk c b).rcv q (rcvV m c b) ∗ crd c (.oc b)) -∗ WP c kk Q)
          -∗ WP c (addStep (blk c b) kk) Q) := wp_add m K c Q b q kk

theorem run_adds (c : Dev nD) (Q : PUnit → sProp 𝕄) (kk : PP F) :
    iprop(facts m K ∗ ow c [] ∗ (pos c .loc ∗ crd c .loc) ∗ (bigSepL oL fun b => ob (F := F) c b)
        ∗ (bigSepL yL fun k => ownsTc c (dstM (.y k)) fullShare.right.right (tv m c (.y k)))
        ∗ (bigSepL cL fun i => ownsTc c (dstM (.x ⟨5 + i.val, by omega⟩)) fullShare.right (tv m c (.x ⟨5 + i.val, by omega⟩)))
        ∗ (bigSepL cL fun i => ownsTc c (dstM (.z ⟨2 + i.val, by omega⟩)) fullShare.right (tv m c (.z ⟨2 + i.val, by omega⟩)))
        ∗ (bigSepL xL fun k => inn (F := F) c (.x k)) ∗ (bigSepL zL fun k => inn (F := F) c (.z k)) ∗ (bigSepL wL fun k => inn (F := F) c (.w k))
        ∗ (bigSepL cL fun k => inn (F := F) c (.a k)) ∗ (bigSepL cL fun k => inn (F := F) c (.b k)))
      ⊢ iprop((iprop(ow c [] ∗ (ownsTc c locM fullShare (loV m c) ∗ zero c .loc) ∗ (bigSepL oL fun b => crd c (.oc b))
              ∗ (ownsTc c (blk c 0).rcv fullShare.right.right (rcvV m c 0) ∗ ownsTc c (blk c 1).rcv fullShare.right (rcvV m c 1) ∗ ownsTc c (blk c 2).rcv fullShare.right (rcvV m c 2)
                ∗ ownsTc c (blk c 3).rcv fullShare (rcvV m c 3) ∗ ownsTc c (blk c 4).rcv fullShare (rcvV m c 4) ∗ ownsTc c (blk c 5).rcv fullShare (rcvV m c 5))
              ∗ ((bigSepL xL fun k => ownsTc c (dstM (.x k)) fullShare.left (tv m c (.x k))) ∗ (bigSepL zL fun k => ownsTc c (dstM (.z k)) fullShare.left (tv m c (.z k))))
              ∗ (bigSepL xL fun k => zero c (.rcv (.x k))) ∗ (bigSepL zL fun k => zero c (.rcv (.z k))) ∗ (bigSepL wL fun k => zero c (.rcv (.w k)))
              ∗ (bigSepL cL fun k => zero c (.rcv (.a k))) ∗ (bigSepL cL fun k => zero c (.rcv (.b k)))) -∗ WP c kk Q)
          -∗ WP c (adds c kk) Q) := by
  rw [oL_split, oL_split]
  iintro ⟨#HF, HO, ⟨Hlp, Hlc⟩, ⟨Ho0, Ho1, Ho2, Ho3, Ho4, Ho5⟩, Hyd, Hxd, Hzd, Hix, Hiz, Hiw, Hia, Hib⟩ Hk
  unfold adds
  iapply (wp_loWait m K c Q [] (by simp)) $$ [Hlp Hlc HO]
  · isplitr; · iexact HF
    isplitl [Hlp]; · iexact Hlp
    isplitl [Hlc] <;> iassumption
  iintro ⟨Hl, Hlz, HO⟩
  -- block 0: the chunks from the y peer
  ihave Hyd := (join_y m c fullShare.right.right yL (by decide) (by decide)) $$ Hyd
  iapply (run_add m K c Q 0 fullShare.right.right) $$ [Hl Hyd Ho0]
  · isplitr; · iexact HF
    isplitl [Hl]; · iexact Hl
    isplitl [Hyd] <;> iassumption
  iintro ⟨Hl, Hyd, Hc0⟩
  -- block 1: those forwarded along x
  iapply (run_arr m K c Q xL fun k => .x k) $$ [Hix HO]
  · isplitr; · iexact HF
    isplitl [Hix] <;> iassumption
  iintro ⟨Hx, Hxz, HO⟩
  ihave Hx := (chunks_halve m c xL (fun k => .x k) fullShare).1 $$ Hx
  icases Hx with ⟨Hxl, Hxr⟩
  ihave Hxd := (Entails.of_eq (xL_split fun k => ownsTc c (dstM (.x k)) fullShare.right (tv m c (.x k))).symm) $$ [Hxr Hxd]
  · isplitl [Hxr] <;> iassumption
  ihave Hxd := (join_x m c fullShare.right xL' (by decide) (by decide)) $$ Hxd
  iapply (run_add m K c Q 1 fullShare.right) $$ [Hl Hxd Ho1]
  · isplitr; · iexact HF
    isplitl [Hl]; · iexact Hl
    isplitl [Hxd] <;> iassumption
  iintro ⟨Hl, Hxd, Hc1⟩
  -- block 2: those forwarded along z
  iapply (run_arr m K c Q zL fun k => .z k) $$ [Hiz HO]
  · isplitr; · iexact HF
    isplitl [Hiz] <;> iassumption
  iintro ⟨Hz, Hzz, HO⟩
  ihave Hz := (chunks_halve m c zL (fun k => .z k) fullShare).1 $$ Hz
  icases Hz with ⟨Hzl, Hzr⟩
  ihave Hzd := (Entails.of_eq (zL_split fun k => ownsTc c (dstM (.z k)) fullShare.right (tv m c (.z k))).symm) $$ [Hzr Hzd]
  · isplitl [Hzr] <;> iassumption
  ihave Hzd := (join_z m c fullShare.right zL' (by decide) (by decide)) $$ Hzd
  iapply (run_add m K c Q 2 fullShare.right) $$ [Hl Hzd Ho2]
  · isplitr; · iexact HF
    isplitl [Hl]; · iexact Hl
    isplitl [Hzd] <;> iassumption
  iintro ⟨Hl, Hzd, Hc2⟩
  -- blocks 3, 4 and 5: the last quarter
  iapply (run_arr m K c Q wL fun k => .w k) $$ [Hiw HO]
  · isplitr; · iexact HF
    isplitl [Hiw] <;> iassumption
  iintro ⟨Hw, Hwz, HO⟩
  ihave Hw := (join_w m c fullShare wL (by decide) (by decide)) $$ Hw
  iapply (run_add m K c Q 3 fullShare) $$ [Hl Hw Ho3]
  · isplitr; · iexact HF
    isplitl [Hl]; · iexact Hl
    isplitl [Hw] <;> iassumption
  iintro ⟨Hl, Hw, Hc3⟩
  iapply (run_arr m K c Q cL fun k => .a k) $$ [Hia HO]
  · isplitr; · iexact HF
    isplitl [Hia] <;> iassumption
  iintro ⟨Ha, Haz, HO⟩
  ihave Ha := (join_a m c fullShare cL (by decide) (by decide)) $$ Ha
  iapply (run_add m K c Q 4 fullShare) $$ [Hl Ha Ho4]
  · isplitr; · iexact HF
    isplitl [Hl]; · iexact Hl
    isplitl [Ha] <;> iassumption
  iintro ⟨Hl, Ha, Hc4⟩
  iapply (run_arr m K c Q cL fun k => .b k) $$ [Hib HO]
  · isplitr; · iexact HF
    isplitl [Hib] <;> iassumption
  iintro ⟨Hb, Hbz, HO⟩
  ihave Hb := (join_b m c fullShare cL (by decide) (by decide)) $$ Hb
  iapply (run_add m K c Q 5 fullShare) $$ [Hl Hb Ho5]
  · isplitr; · iexact HF
    isplitl [Hl]; · iexact Hl
    isplitl [Hb] <;> iassumption
  iintro ⟨Hl, Hb, Hc5⟩
  iapply Hk
  isplitl [HO]; · iexact HO
  isplitl [Hl Hlz]
  · isplitl [Hl] <;> iassumption
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4] <;> iassumption
  isplitl [Hyd Hxd Hzd Hw Ha Hb]
  · isplitl [Hyd]; · iexact Hyd
    isplitl [Hxd]; · iexact Hxd
    isplitl [Hzd]; · iexact Hzd
    isplitl [Hw]; · iexact Hw
    isplitl [Ha] <;> iassumption
  isplitl [Hxl Hzl]
  · isplitl [Hxl] <;> iassumption
  isplitl [Hxz]; · iexact Hxz
  isplitl [Hzz]; · iexact Hzz
  isplitl [Hwz]; · iexact Hwz
  isplitl [Haz] <;> iassumption

/-! ## The last waits -/

/-- Departures waited for: the sources come back. -/
theorem run_dep (c : Dev nD) (Q : PUnit → sProp 𝕄) {ι : Type} (l : List ι) (f : ι → Tr) (kk : PP F) :
    iprop(facts m K ∗ ow c [] ∗ (bigSepL l fun i => pos c (.snd (f i))) ∗ (bigSepL l fun i => crd c (.snd (f i))))
      ⊢ iprop((iprop((bigSepL l fun i => ownsTc c (srcM (f i)) (shr (f i)) (tv m (peer (f i) c) (f i))) ∗ (bigSepL l fun i => zero c (.snd (f i))) ∗ ow c []) -∗ WP c kk Q)
          -∗ WP c (each l (fun i => sndStep (f i)) kk) Q) := by
  iintro ⟨#HF, HO, Hp, Hc⟩ Hk
  iapply (wp_each c Q (facts m K) (fun i => sndStep (f i)) (fun i => iprop(pos c (.snd (f i)) ∗ crd c (.snd (f i))))
    (fun i => iprop(ownsTc c (srcM (f i)) (shr (f i)) (tv m (peer (f i) c) (f i)) ∗ zero c (.snd (f i)))) (fun _ => ow c []) l
    (fun i _ l' kk => wp_snd m K c Q (f i) kk)) $$ [Hp Hc HO]
  · isplitr; · iexact HF
    isplitr [HO]
    · iapply (bigSepL_sep l _ _).2
      isplitl [Hp] <;> iassumption
    · iexact HO
  iintro ⟨Hp, HO⟩
  ihave Hp := (bigSepL_sep l _ _).1 $$ Hp
  icases Hp with ⟨Hd, Hz⟩
  iapply Hk
  isplitl [Hd]; · iexact Hd
  isplitl [Hz] <;> iassumption

/-- What a departure gives back and leaves. -/
abbrev srcs (c : Dev nD) {ι : Type} (l : List ι) (f : ι → Tr) : sProp 𝕄 :=
  bigSepL l fun i => ownsTc c (srcM (f i)) (shr (f i)) (tv m (peer (f i) c) (f i))

theorem run_tail (c : Dev nD) (Q : PUnit → sProp 𝕄) :
    iprop(facts m K ∗ ow c []
        ∗ ((bigSepL yL fun k => pos c (.snd (.y k))) ∗ (bigSepL yL fun k => crd c (.snd (.y k))))
        ∗ ((bigSepL wL fun k => pos c (.snd (.w k))) ∗ (bigSepL wL fun k => crd c (.snd (.w k))))
        ∗ ((bigSepL yL fun k => pos c (.snd (.x k))) ∗ (bigSepL yL fun k => crd c (.snd (.x k))))
        ∗ ((bigSepL yL fun k => pos c (.snd (.z k))) ∗ (bigSepL yL fun k => crd c (.snd (.z k))))
        ∗ ((bigSepL cL fun k => pos c (.snd (.a k))) ∗ (bigSepL cL fun k => crd c (.snd (.a k))))
        ∗ ((bigSepL cL fun k => pos c (.snd (.b k))) ∗ (bigSepL cL fun k => crd c (.snd (.b k))))
        ∗ ((bigSepL oL fun b => pos c (.oc b)) ∗ (bigSepL oL fun b => crd c (.oc b))))
      ⊢ iprop((iprop(ow c [] ∗ (srcs m c yL (fun k => .y k) ∗ (bigSepL yL fun k => zero c (.snd (.y k))))
              ∗ (srcs m c wL (fun k => .w k) ∗ (bigSepL wL fun k => zero c (.snd (.w k))))
              ∗ (srcs m c yL (fun k => .x k) ∗ (bigSepL yL fun k => zero c (.snd (.x k))))
              ∗ (srcs m c yL (fun k => .z k) ∗ (bigSepL yL fun k => zero c (.snd (.z k))))
              ∗ (srcs m c cL (fun k => .a k) ∗ (bigSepL cL fun k => zero c (.snd (.a k))))
              ∗ (srcs m c cL (fun k => .b k) ∗ (bigSepL cL fun k => zero c (.snd (.b k))))
              ∗ (bigSepL oL fun b => pay m c (.oc b) 0) ∗ (bigSepL oL fun b => zero c (.oc b))) -∗ Q ⟨⟩)
          -∗ WP c (tail c) Q) := by
  iintro ⟨#HF, HO, ⟨Hy, Hy'⟩, ⟨Hw, Hw'⟩, ⟨Hx, Hx'⟩, ⟨Hz, Hz'⟩, ⟨Ha, Ha'⟩, ⟨Hb, Hb'⟩, Ho, Ho'⟩ Hk
  unfold tail
  iapply (run_dep m K c Q yL fun k => .y k) $$ [HO Hy Hy']
  · isplitr; · iexact HF
    isplitl [HO]; · iexact HO
    isplitl [Hy] <;> iassumption
  iintro ⟨Hy, Hy', HO⟩
  iapply (run_dep m K c Q wL fun k => .w k) $$ [HO Hw Hw']
  · isplitr; · iexact HF
    isplitl [HO]; · iexact HO
    isplitl [Hw] <;> iassumption
  iintro ⟨Hw, Hw', HO⟩
  iapply (run_dep m K c Q yL fun k => .x k) $$ [HO Hx Hx']
  · isplitr; · iexact HF
    isplitl [HO]; · iexact HO
    isplitl [Hx] <;> iassumption
  iintro ⟨Hx, Hx', HO⟩
  iapply (run_dep m K c Q yL fun k => .z k) $$ [HO Hz Hz']
  · isplitr; · iexact HF
    isplitl [HO]; · iexact HO
    isplitl [Hz] <;> iassumption
  iintro ⟨Hz, Hz', HO⟩
  iapply (run_dep m K c Q cL fun k => .a k) $$ [HO Ha Ha']
  · isplitr; · iexact HF
    isplitl [HO]; · iexact HO
    isplitl [Ha] <;> iassumption
  iintro ⟨Ha, Ha', HO⟩
  iapply (run_dep m K c Q cL fun k => .b k) $$ [HO Hb Hb']
  · isplitr; · iexact HF
    isplitl [HO]; · iexact HO
    isplitl [Hb] <;> iassumption
  iintro ⟨Hb, Hb', HO⟩
  iapply (wp_each c Q (facts m K) (fun b => outStep (blk c b)) (fun b => iprop(pos c (.oc b) ∗ crd c (.oc b)))
    (fun b => iprop(pay m c (.oc b) 0 ∗ zero c (.oc b))) (fun _ => ow c []) oL (fun b _ l' kk => wp_out m K c Q b kk)) $$ [Ho Ho' HO]
  · isplitr; · iexact HF
    isplitr [HO]
    · iapply (bigSepL_sep oL _ _).2
      isplitl [Ho] <;> iassumption
    · iexact HO
  iintro ⟨Hp, HO⟩
  ihave Hp := (bigSepL_sep oL _ _).1 $$ Hp
  icases Hp with ⟨Ho, Ho'⟩
  unfold WP
  rw [wp_ret]
  imodintro
  iapply Hk
  isplitl [HO]; · iexact HO
  isplitl [Hy Hy']; · isplitl [Hy] <;> iassumption
  isplitl [Hw Hw']; · isplitl [Hw] <;> iassumption
  isplitl [Hx Hx']; · isplitl [Hx] <;> iassumption
  isplitl [Hz Hz']; · isplitl [Hz] <;> iassumption
  isplitl [Ha Ha']; · isplitl [Ha] <;> iassumption
  isplitl [Hb Hb']; · isplitl [Hb] <;> iassumption
  isplitl [Ho] <;> iassumption

end Cert.KernelIdeal

end
-- ==== Proof.Body.lean ====
/- The whole body on one device: from what the launch gives to what it leaves. -/
module

public import proofs.«01_k».proof.Proof.Adds

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

/-! ## Before and after -/

theorem ck_split (Φ : Ck → sProp 𝕄) : bigSepL ckL Φ = iprop(Φ .bar ∗ Φ .loc ∗ (bigSepL sL fun k => Φ (.st k)) ∗ (bigSepL trL fun t => Φ (.snd t))
    ∗ (bigSepL trL fun t => Φ (.rcv t)) ∗ (bigSepL oL fun b => Φ (.oc b))) := by
  unfold ckL osL
  rw [bigSepL_cons', bigSepL_cons', bigSepL_append, bigSepL_append, bigSepL_append, bigSepL_map, bigSepL_map, bigSepL_map, bigSepL_map]

theorem tr_split (Φ : Tr → sProp 𝕄) : bigSepL trL Φ = iprop((((((bigSepL yL fun k => Φ (.y k)) ∗ (bigSepL wL fun k => Φ (.w k))) ∗ (bigSepL yL fun k => Φ (.x k)))
    ∗ (bigSepL yL fun k => Φ (.z k))) ∗ (bigSepL cL fun k => Φ (.a k))) ∗ (bigSepL cL fun k => Φ (.b k))) := by
  unfold trL
  rw [bigSepL_append, bigSepL_append, bigSepL_append, bigSepL_append, bigSepL_append, bigSepL_map, bigSepL_map, bigSepL_map, bigSepL_map, bigSepL_map, bigSepL_map]

theorem perm8 (l : List (Fin 8)) (hl : l.Nodup) (hm : ∀ k, k ∈ l) (Φ : Fin 8 → sProp 𝕄) : bigSepL yL Φ = bigSepL l Φ := by
  rw [← bigSep_univ_eq_bigSepL yL (by decide) (by decide), ← bigSep_univ_eq_bigSepL l (by ext k; simp [hm k]) hl]

/-- The scratch buffers, whatever they hold. -/
abbrev scr (c : Dev nD) : sProp 𝕄 :=
  iprop(anyOf (F := F) c accM fullShare ∗ anyOf (F := F) c locM fullShare ∗ anyOf (F := F) c stgM fullShare ∗ anyOf (F := F) c ysM fullShare ∗ anyOf (F := F) c ydM fullShare
    ∗ anyOf (F := F) c yxM fullShare ∗ anyOf (F := F) c xdM fullShare ∗ anyOf (F := F) c zdM fullShare ∗ anyOf (F := F) c daM fullShare ∗ anyOf (F := F) c dbM fullShare)

/-- The rights device `c` has: its neighbours' barrier duties, its remote copies, its local ones. -/
abbrev toks (c : Dev nD) : sProp 𝕄 :=
  iprop((bigSepL cL fun i => dutyTok ER (cell (nb i c) .bar) 0 i) ∗ (bigSepL trL fun t => tks (F := F) c t) ∗ tok c .loc ∗ (bigSepL sL fun k => tok c (.st k))
    ∗ (bigSepL oL fun b => tok c (.oc b)))

/-- What device `c` starts with. -/
def before (c : Dev nD) : sProp 𝕄 :=
  iprop(facts m K ∗ ow c (d0 c) ∗ (bigSepL ckL fun κ => pos c κ) ∗ (crd c .bar ∗ bigSepL trL fun t => crd c (.rcv t)) ∗ toks (F := F) c ∗ argOf m c
    ∗ anyOf (F := F) c outM fullShare ∗ scr (F := F) c)

/-- What it ends with: the six blocks of the result among it. -/
def after (c : Dev nD) : sProp 𝕄 :=
  iprop(ow c [] ∗ (bigSepL ckL fun κ => zero c κ) ∗ argOf m c ∗ (bigSepL oL fun b => ownsTc c (blk c b).dst fullShare (blkV m c b)) ∗ scr (F := F) c)

theorem inn_x (c : Dev nD) : iprop((bigSepL yL fun k => pos c (.rcv (.x k))) ∗ (bigSepL yL fun k => crd c (.rcv (.x k))))
    ⊢ (iprop((bigSepL xL fun k => inn (F := F) c (.x k)) ∗ bigSepL cL fun i => inn (F := F) c (.x ⟨5 + i.val, by omega⟩)) : sProp 𝕄) := by
  rw [← xL_split (fun k => inn (F := F) c (.x k)), ← perm8 xL' (by decide) (by decide)]
  exact (bigSepL_sep yL _ _).2

theorem inn_z (c : Dev nD) : iprop((bigSepL yL fun k => pos c (.rcv (.z k))) ∗ (bigSepL yL fun k => crd c (.rcv (.z k))))
    ⊢ (iprop((bigSepL zL fun k => inn (F := F) c (.z k)) ∗ bigSepL cL fun i => inn (F := F) c (.z ⟨2 + i.val, by omega⟩)) : sProp 𝕄) := by
  rw [← zL_split (fun k => inn (F := F) c (.z k)), ← perm8 zL' (by decide) (by decide)]
  exact (bigSepL_sep yL _ _).2

/-! ## The buffers, put together again -/

theorem back_stg (c : Dev nD) : (bigSepL sL fun k => ownsTc c (stDst k) fullShare (stV m c k)) ⊢ (anyOf (F := F) c stgM fullShare : sProp 𝕄) :=
  (chunks_join (R := 1280) (n := 10) rfl c stgM fullShare sL (by decide) (by decide) fun k => stV m c k).trans (any_of c stgM fullShare _)

theorem back_ys (c : Dev nD) : iprop(srcs m c yL (fun k => .y k) ∗ srcs m c wL (fun k => .w k)) ⊢ (anyOf (F := F) c ysM fullShare : sProp 𝕄) := by
  refine .trans ?_ ((chunks_join (R := 1280) (n := 10) rfl c ysM fullShare sL (by decide) (by decide) fun k => ysV m c k).trans (any_of c ysM fullShare _))
  rw [sL_split]
  exact BI.sep_mono (bigSepL_mono fun k _ => Entails.of_eq (src_y m c k).symm) (bigSepL_mono fun k _ => Entails.of_eq (src_w m c k).symm)

theorem back_yd (c : Dev nD) : iprop(srcs m c yL (fun k => .x k) ∗ srcs m c yL (fun k => .z k) ∗ ownsTc c (blk c 0).rcv fullShare.right.right (rcvV m c 0))
    ⊢ (anyOf (F := F) c ydM fullShare : sProp 𝕄) := by
  iintro ⟨Hx, Hz, Hr⟩
  ihave Hr := (cut_y m c fullShare.right.right yL (by decide) (by decide)) $$ Hr
  ihave Hz := (bigSepL_mono (l := yL) fun k _ => Entails.of_eq (src_z m c k).symm) $$ Hz
  ihave Hx := (bigSepL_mono (l := yL) fun k _ => Entails.of_eq (src_x m c k).symm) $$ Hx
  ihave Hr := (chunks_halve m c yL (fun k => .y k) fullShare.right).2 $$ [Hz Hr]
  · isplitl [Hz] <;> iassumption
  ihave Hr := (chunks_halve m c yL (fun k => .y k) fullShare).2 $$ [Hx Hr]
  · isplitl [Hx] <;> iassumption
  ihave Hr := (join_y m c fullShare yL (by decide) (by decide)) $$ Hr
  ihave Hr := (Entails.of_eq (rcv_y m c fullShare)) $$ Hr
  iapply (any_of c ydM fullShare _)
  iexact Hr

theorem back_xd (c : Dev nD) : iprop((bigSepL xL fun k => ownsTc c (dstM (.x k)) fullShare.left (tv m c (.x k))) ∗ srcs m c cL (fun k => .b k)
      ∗ ownsTc c (blk c 1).rcv fullShare.right (rcvV m c 1)) ⊢ (anyOf (F := F) c xdM fullShare : sProp 𝕄) := by
  iintro ⟨Hx, Hb, Hr⟩
  ihave Hr := (cut_x m c fullShare.right xL' (by decide) (by decide)) $$ Hr
  ihave Hb := (bigSepL_mono (l := cL) fun k _ => Entails.of_eq (src_b m c k).symm) $$ Hb
  ihave Hx := (Entails.of_eq (xL_split fun k => ownsTc c (dstM (.x k)) fullShare.left (tv m c (.x k))).symm) $$ [Hx Hb]
  · isplitl [Hx] <;> iassumption
  ihave Hr := (chunks_halve m c xL' (fun k => .x k) fullShare).2 $$ [Hx Hr]
  · isplitl [Hx] <;> iassumption
  ihave Hr := (join_x m c fullShare xL' (by decide) (by decide)) $$ Hr
  ihave Hr := (Entails.of_eq (rcv_x m c fullShare)) $$ Hr
  iapply (any_of c xdM fullShare _)
  iexact Hr

theorem back_zd (c : Dev nD) : iprop((bigSepL zL fun k => ownsTc c (dstM (.z k)) fullShare.left (tv m c (.z k))) ∗ srcs m c cL (fun k => .a k)
      ∗ ownsTc c (blk c 2).rcv fullShare.right (rcvV m c 2)) ⊢ (anyOf (F := F) c zdM fullShare : sProp 𝕄) := by
  iintro ⟨Hx, Hb, Hr⟩
  ihave Hr := (cut_z m c fullShare.right zL' (by decide) (by decide)) $$ Hr
  ihave Hb := (bigSepL_mono (l := cL) fun k _ => Entails.of_eq (src_a m c k).symm) $$ Hb
  ihave Hx := (Entails.of_eq (zL_split fun k => ownsTc c (dstM (.z k)) fullShare.left (tv m c (.z k))).symm) $$ [Hx Hb]
  · isplitl [Hx] <;> iassumption
  ihave Hr := (chunks_halve m c zL' (fun k => .z k) fullShare).2 $$ [Hx Hr]
  · isplitl [Hx] <;> iassumption
  ihave Hr := (join_z m c fullShare zL' (by decide) (by decide)) $$ Hr
  ihave Hr := (Entails.of_eq (rcv_z m c fullShare)) $$ Hr
  iapply (any_of c zdM fullShare _)
  iexact Hr

theorem back_yx (c : Dev nD) : (ownsTc c (blk c 3).rcv fullShare (rcvV m c 3) : sProp 𝕄) ⊢ anyOf (F := F) c yxM fullShare := by
  rw [rcv_w]; exact any_of c yxM fullShare _
theorem back_da (c : Dev nD) : (ownsTc c (blk c 4).rcv fullShare (rcvV m c 4) : sProp 𝕄) ⊢ anyOf (F := F) c daM fullShare := by
  rw [rcv_a]; exact any_of c daM fullShare _
theorem back_db (c : Dev nD) : (ownsTc c (blk c 5).rcv fullShare (rcvV m c 5) : sProp 𝕄) ⊢ anyOf (F := F) c dbM fullShare := by
  rw [rcv_b]; exact any_of c dbM fullShare _

theorem back_acc (c : Dev nD) : (bigSepL oL fun b => ownsTc c (blk c b).src fullShare (blkV m c b)) ⊢ (anyOf (F := F) c accM fullShare : sProp 𝕄) :=
  (blks_join c accM fun b => blkV m c b).trans (any_of c accM fullShare _)

theorem back_oc (c : Dev nD) : (bigSepL oL fun b => pay m c (.oc b) 0)
    ⊢ (iprop((bigSepL oL fun b => ownsTc c (blk c b).dst fullShare (blkV m c b)) ∗ bigSepL oL fun b => ownsTc c (blk c b).src fullShare (blkV m c b)) : sProp 𝕄) :=
  (bigSepL_sep oL _ _).1

/-- The chunks of a device's own landing buffers, as the barrier's signals hand them over. -/
theorem lands_cut (c : Dev nD) :
    iprop(anyOf (F := F) c ydM fullShare ∗ anyOf (F := F) c yxM fullShare ∗ anyOf (F := F) c xdM fullShare ∗ anyOf (F := F) c zdM fullShare
        ∗ anyOf (F := F) c daM fullShare ∗ anyOf (F := F) c dbM fullShare)
      ⊢ (bigSepL cL fun i => bigSepL (dirL i) fun t => anyOf (F := F) c (dstM t) fullShare : sProp 𝕄) := by
  rw [dir_split fun _ t => anyOf (F := F) c (dstM t) fullShare]
  iintro ⟨Hyd, Hyx, Hxd, Hzd, Hda, Hdb⟩
  ihave Hyd := (chunks_any (R := 1024) (n := 8) rfl c ydM fullShare yL (by decide) (by decide)) $$ Hyd
  ihave Hyx := (chunks_any (R := 256) (n := 2) rfl c yxM fullShare wL (by decide) (by decide)) $$ Hyx
  ihave Hxd := (chunks_any (R := 1024) (n := 8) rfl c xdM fullShare yL (by decide) (by decide)) $$ Hxd
  ihave Hzd := (chunks_any (R := 1024) (n := 8) rfl c zdM fullShare yL (by decide) (by decide)) $$ Hzd
  ihave Hda := (chunks_any (R := 384) (n := 3) rfl c daM fullShare cL (by decide) (by decide)) $$ Hda
  ihave Hdb := (chunks_any (R := 384) (n := 3) rfl c dbM fullShare cL (by decide) (by decide)) $$ Hdb
  isplitl [Hyd Hyx]
  · isplitl [Hyd]; · iexact Hyd
    iexact Hyx
  isplitl [Hxd Hda]
  · isplitl [Hxd]; · iexact Hxd
    iexact Hda
  isplitl [Hzd]; · iexact Hzd
  iexact Hdb

/-! ## The body -/

theorem run_body (c : Dev nD) (Q : PUnit → sProp 𝕄) : before m K c ⊢ iprop((after m c -∗ Q ⟨⟩) -∗ WP c (body c) Q) := by
  unfold before after toks
  rw [ck_split, ck_split, tr_split, tr_split, tr_split, tr_split, tr_split, tr_split]
  iintro ⟨#HF, HO, ⟨Hpb, Hpl, Hps, Hpd, Hpr, Hpo⟩, ⟨Hcb, Hcr⟩, ⟨Htb, Htt, Htl, Hts, Hto⟩, Harg, Hout, Hacc, Hloc, Hstg, Hys, Hyd, Hyx, Hxd, Hzd, Hda, Hdb⟩ Hk
  icases Hpd with ⟨⟨⟨⟨⟨Hdy, Hdw⟩, Hdx⟩, Hdz⟩, Hdda⟩, Hddb⟩
  icases Hpr with ⟨⟨⟨⟨⟨Hry, Hrw⟩, Hrx⟩, Hrz⟩, Hra⟩, Hrb⟩
  icases Hcr with ⟨⟨⟨⟨⟨Hcy, Hcw⟩, Hcx⟩, Hcz⟩, Hca⟩, Hcb'⟩
  icases Htt with ⟨⟨⟨⟨⟨Hty, Htw⟩, Htx⟩, Htz⟩, Hta⟩, Htb'⟩
  ihave Hl := (lands_cut c) $$ [Hyd Hyx Hxd Hzd Hda Hdb]
  · isplitl [Hyd]; · iexact Hyd
    isplitl [Hyx]; · iexact Hyx
    isplitl [Hxd]; · iexact Hxd
    isplitl [Hzd]; · iexact Hzd
    isplitl [Hda] <;> iassumption
  ihave Hstg := (chunks_any (R := 1280) (n := 10) rfl c stgM fullShare sL (by decide) (by decide)) $$ Hstg
  ihave Hys := (chunks_any (R := 1280) (n := 10) rfl c ysM fullShare sL (by decide) (by decide)) $$ Hys
  ihave Hacc := (blks_any c accM) $$ Hacc
  ihave Hout := (blks_any c outM) $$ Hout
  unfold body
  iapply (run_head m K c Q) $$ [HO Htb Hl Hpb Hcb Harg Hstg Hts Hps Hloc Htl Hys Hty Htw]
  · isplitr; · iexact HF
    isplitl [HO]; · iexact HO
    isplitl [Htb Hl]
    · iapply (bigSepL_sep cL _ _).2
      isplitl [Htb] <;> iassumption
    isplitl [Hpb Hcb]; · isplitl [Hpb] <;> iassumption
    isplitl [Harg]; · iexact Harg
    isplitl [Hstg]; · iexact Hstg
    isplitl [Hts]; · iexact Hts
    isplitl [Hps]; · iexact Hps
    isplitl [Hloc Htl]; · isplitl [Hloc] <;> iassumption
    isplitl [Hys]; · iexact Hys
    isplitl [Hty] <;> iassumption
  iintro ⟨⟨Harg, Hzb, Hlc⟩, Hsdy, Hsdw, Hscy, Hscw, Hlx, Hla, Hlz, Hlb, HO⟩
  ihave Hix := (inn_x c) $$ [Hrx Hcx]
  · isplitl [Hrx] <;> iassumption
  icases Hix with ⟨Hix, Hix'⟩
  ihave Hiz := (inn_z c) $$ [Hrz Hcz]
  · isplitl [Hrz] <;> iassumption
  icases Hiz with ⟨Hiz, Hiz'⟩
  iapply (run_fwds m K c Q) $$ [HO Hry Hcy Hlx Hlz Htx Htz Hix' Hlb Htb' Hiz' Hla Hta]
  · isplitr; · iexact HF
    isplitl [HO]; · iexact HO
    isplitl [Hry Hcy]
    · iapply (bigSepL_sep yL _ _).2
      isplitl [Hry] <;> iassumption
    isplitl [Hlx Hlz Htx Htz]
    · isplitl [Hlx]; · iexact Hlx
      isplitl [Hlz]; · iexact Hlz
      isplitl [Htx] <;> iassumption
    isplitl [Hix' Hlb Htb']
    · isplitl [Hix']; · iexact Hix'
      isplitl [Hlb] <;> iassumption
    isplitl [Hiz']; · iexact Hiz'
    isplitl [Hla] <;> iassumption
  iintro ⟨⟨Hyd, Hzry, Hscx, Hscz⟩, ⟨Hxd, Hzrx', Hscb⟩, ⟨Hzd, Hzrz', Hsca⟩, HO⟩
  iapply (run_adds m K c Q) $$ [HO Hpl Hlc Hacc Hout Hto Hyd Hxd Hzd Hix Hiz Hrw Hcw Hra Hca Hrb Hcb']
  · isplitr; · iexact HF
    isplitl [HO]; · iexact HO
    isplitl [Hpl Hlc]; · isplitl [Hpl] <;> iassumption
    isplitl [Hacc Hout Hto]
    · iapply (bigSepL_sep oL _ _).2
      isplitl [Hacc]; · iexact Hacc
      iapply (bigSepL_sep oL _ _).2
      isplitl [Hout] <;> iassumption
    isplitl [Hyd]; · iexact Hyd
    isplitl [Hxd]; · iexact Hxd
    isplitl [Hzd]; · iexact Hzd
    isplitl [Hix]; · iexact Hix
    isplitl [Hiz]; · iexact Hiz
    isplitl [Hrw Hcw]
    · iapply (bigSepL_sep wL _ _).2
      isplitl [Hrw] <;> iassumption
    isplitl [Hra Hca]
    · iapply (bigSepL_sep cL _ _).2
      isplitl [Hra] <;> iassumption
    iapply (bigSepL_sep cL _ _).2
    isplitl [Hrb] <;> iassumption
  iintro ⟨HO, ⟨Hloc, Hzl⟩, Hoc, ⟨Hr0, Hr1, Hr2, Hr3, Hr4, Hr5⟩, ⟨Hxl, Hzl'⟩, Hzrx, Hzrz, Hzrw, Hzra, Hzrb⟩
  iapply (run_tail m K c Q) $$ [HO Hdy Hscy Hdw Hscw Hdx Hscx Hdz Hscz Hdda Hsca Hddb Hscb Hpo Hoc]
  · isplitr; · iexact HF
    isplitl [HO]; · iexact HO
    isplitl [Hdy Hscy]; · isplitl [Hdy] <;> iassumption
    isplitl [Hdw Hscw]; · isplitl [Hdw] <;> iassumption
    isplitl [Hdx Hscx]; · isplitl [Hdx] <;> iassumption
    isplitl [Hdz Hscz]; · isplitl [Hdz] <;> iassumption
    isplitl [Hdda Hsca]; · isplitl [Hdda] <;> iassumption
    isplitl [Hddb Hscb]; · isplitl [Hddb] <;> iassumption
    isplitl [Hpo] <;> iassumption
  iintro ⟨HO, ⟨Hsy, Hzsy⟩, ⟨Hsw, Hzsw⟩, ⟨Hsx, Hzsx⟩, ⟨Hsz, Hzsz⟩, ⟨Hsa, Hzsa⟩, ⟨Hsb, Hzsb⟩, Hpo, Hzo⟩
  ihave Hpo := (back_oc m c) $$ Hpo
  icases Hpo with ⟨Hout, Hacc⟩
  ihave Hsd := (Entails.of_eq (sL_split fun k => stDone m c k).symm) $$ [Hsdy Hsdw]
  · isplitl [Hsdy] <;> iassumption
  ihave Hsd := (bigSepL_sep sL _ _).1 $$ Hsd
  icases Hsd with ⟨Hstg, Hzst⟩
  ihave Hzrx := (Entails.of_eq ((xL_split fun k => zero (F := F) c (.rcv (.x k))).symm.trans (perm8 xL' (by decide) (by decide) _).symm)) $$ [Hzrx Hzrx']
  · isplitl [Hzrx] <;> iassumption
  ihave Hzrz := (Entails.of_eq ((zL_split fun k => zero (F := F) c (.rcv (.z k))).symm.trans (perm8 zL' (by decide) (by decide) _).symm)) $$ [Hzrz Hzrz']
  · isplitl [Hzrz] <;> iassumption
  iapply Hk
  isplitl [HO]; · iexact HO
  isplitl [Hzb Hzl Hzst Hzsy Hzsw Hzsx Hzsz Hzsa Hzsb Hzry Hzrw Hzrx Hzrz Hzra Hzrb Hzo]
  · isplitl [Hzb]; · iexact Hzb
    isplitl [Hzl]; · iexact Hzl
    isplitl [Hzst]; · iexact Hzst
    isplitl [Hzsy Hzsw Hzsx Hzsz Hzsa Hzsb]
    · isplitr [Hzsb]
      · isplitr [Hzsa]
        · isplitr [Hzsz]
          · isplitr [Hzsx]
            · isplitl [Hzsy] <;> iassumption
            · iexact Hzsx
          · iexact Hzsz
        · iexact Hzsa
      · iexact Hzsb
    isplitl [Hzry Hzrw Hzrx Hzrz Hzra Hzrb]
    · isplitr [Hzrb]
      · isplitr [Hzra]
        · isplitr [Hzrz]
          · isplitr [Hzrx]
            · isplitl [Hzry] <;> iassumption
            · iexact Hzrx
          · iexact Hzrz
        · iexact Hzra
      · iexact Hzrb
    iexact Hzo
  isplitl [Harg]; · iexact Harg
  isplitl [Hout]; · iexact Hout
  isplitl [Hacc]; · iapply (back_acc m c); iexact Hacc
  isplitl [Hloc]; · iapply (any_of c locM fullShare _); iexact Hloc
  isplitl [Hstg]; · iapply (back_stg m c); iexact Hstg
  isplitl [Hsy Hsw]
  · iapply (back_ys m c)
    isplitl [Hsy] <;> iassumption
  isplitl [Hsx Hsz Hr0]
  · iapply (back_yd m c)
    isplitl [Hsx]; · iexact Hsx
    isplitl [Hsz] <;> iassumption
  isplitl [Hr3]; · iapply (back_yx m c); iexact Hr3
  isplitl [Hxl Hsb Hr1]
  · iapply (back_xd m c)
    isplitl [Hxl]; · iexact Hxl
    isplitl [Hsb] <;> iassumption
  isplitl [Hzl' Hsa Hr2]
  · iapply (back_zd m c)
    isplitl [Hzl']; · iexact Hzl'
    isplitl [Hsa] <;> iassumption
  isplitl [Hr4]; · iapply (back_da m c); iexact Hr4
  iapply (back_db m c); iexact Hr5

end Cert.KernelIdeal

end
-- ==== Proof.Run.lean ====
/- The run of the program: what each device starts from, the launch, and what is read at the end. -/
module

public import proofs.«01_k».proof.Proof.Body
public import Idealize.ShloMosaic.Lib.Pipeline.CollectiveSegs
public import Idealize.ShloMosaic.Lib.Quiescent

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-! ## One device -/

/-- What a device has before the call, but for its scratch. -/
def start (c : Dev nD) : sProp 𝕄 :=
  iprop(∃ K, facts m K ∗ (bigSepL ckL fun κ => pos c κ) ∗ (crd c .bar ∗ bigSepL trL fun t => crd c (.rcv t)) ∗ toks (F := F) c ∗ argOf m c
    ∗ anyOf (F := F) c outM fullShare)

/-- What it has after the call, but for its scratch and its scoped semaphores. -/
def final (c : Dev nD) : sProp 𝕄 :=
  iprop(zero c .bar ∗ argOf m c ∗ bigSepL oL fun b => ownsTc c (blk c b).dst fullShare (blkV m c b))

def dats (_ : Fin 1) (c : Dev nD) : Dat τ (Elt F) Unit ℕ UU ℕ cfg0 c where
  A w := Fin.elim0 w
  after w _ := Fin.elim0 w
  Φ t := match t with
    | ⟨0, _⟩ => iprop(start m c ∗ scr (F := F) c)
    | ⟨_ + 1, _⟩ => iprop(final m c ∗ (bigSepL osL fun κ => zero c κ) ∗ scr (F := F) c)
  q _ := fullShare
  owed t := match t with
    | ⟨0, _⟩ => owed (d0 c)
    | ⟨_ + 1, _⟩ => owed []

theorem bigSep_W (Φ : Fin cfg0.W → sProp 𝕄) : bigSep Finset.univ Φ = iprop(emp) := bigSep_univ_eq_bigSepL [] (by decide) List.nodup_nil Φ

theorem run_dev (c : Dev nD) :
    iprop((start m c ∗ scr (F := F) c) ∗ (dats m 0 c).owesAt () t0_0.castSucc ∗ emp)
      ⊢ WP c (body c) fun _ => iprop((final m c ∗ (bigSepL osL fun κ => zero c κ) ∗ scr (F := F) c) ∗ (dats m 0 c).owesAt () t0_0.succ ∗ emp) := by
  unfold start
  iintro ⟨⟨⟨%K, HF, Hp, Hc, Ht, Ha, Ho⟩, Hs⟩, How, -⟩
  iapply (run_body m K c _) $$ [HF Hp Hc Ht Ha Ho Hs How]
  · unfold before
    isplitl [HF]; · iexact HF
    isplitl [How]
    · unfold Dat.owesAt Pipeline.owesWithin ow
      icases How with ⟨%W, -, HO⟩
      iexists W; iexact HO
    isplitl [Hp]; · iexact Hp
    isplitl [Hc]; · iexact Hc
    isplitl [Ht]; · iexact Ht
    isplitl [Ha]; · iexact Ha
    isplitl [Ho] <;> iassumption
  unfold after ow final
  rw [show ckL = .bar :: osL from rfl, bigSepL_cons']
  iintro ⟨⟨%W, HO⟩, ⟨Hz, Hzs⟩, Ha, Hout, Hs⟩
  isplitl [Hz Hzs Ha Hout Hs]
  · isplitl [Hz Ha Hout]
    · isplitl [Hz]; · iexact Hz
      isplitl [Ha] <;> iassumption
    isplitl [Hzs] <;> iassumption
  isplitl [HO]
  · unfold Dat.owesAt Pipeline.owesWithin
    iexists W
    isplitr; · ipureintro; exact fun _ _ => Or.inl trivial
    iexact HO
  iempintro

set_option maxRecDepth 65536 in
theorem body_obligation (c : Dev nD) : BodyObligation (dats (F := F) m 0 c) (defs₀ (F := F)) 𝒱₀ () Set.univ := fun t => by
  rw [fin_N0 t, bigSep_W, bigSep_W]
  show iprop((start m c ∗ scr (F := F) c) ∗ (dats m 0 c).owesAt () t0_0.castSucc ∗ emp) ⊢ wp frame (wpE (defs₀ (F := F)) 𝒱₀ (c : Thread nD τ) none) Set.univ (bodyAt0 t0_0 : PP F)
    fun _ => iprop((final m c ∗ (bigSepL osL fun κ => zero c κ) ∗ scr (F := F) c) ∗ (dats m 0 c).owesAt () t0_0.succ ∗ emp)
  rw [body_eq, wp_deviceId]
  exact run_dev m c

/-! ## The ghost state of the launch -/

abbrev osem (k : {κ : Ck // κ ∈ osL}) : SemLoc sig := csem k.1

theorem os_scoped : ∀ κ ∈ osL, (csem κ).isScoped .tc = true := by decide +kernel

theorem ownSemFacts : Pipeline.OwnSemFacts cfg0.spec osem :=
  ⟨fun k => os_scoped k.1 k.2, fun k k' h => Subtype.ext (csem_inj h), fun _ w => w.elim0⟩

theorem share_eq (c : Dev nD) (w : Fin cfg0.W) : (dats (F := F) m 0 c).share w = fullShare := w.elim0

abbrev kcell (p : Dev nD × Ck) : GSem nD τ sig := cell p.1 p.2

theorem kcell_inj : Function.Injective kcell := fun p p' h =>
  Prod.ext (congrArg (fun g : GSem nD τ sig => g.1.1) h) (csem_inj (congrArg Prod.snd h))

abbrev ktok (p : (Dev nD × Ck) × Fin 3) : GSem nD τ sig × ℕ × Fin 3 := (kcell p.1, 0, p.2)

theorem ktok_inj : Function.Injective ktok := fun p p' h =>
  Prod.ext (kcell_inj (congrArg Prod.fst h)) (congrArg (fun x : GSem nD τ sig × ℕ × Fin 3 => x.2.2) h)

def cellsS : Finset (GSem nD τ sig) := Finset.univ.map ⟨kcell, kcell_inj⟩
def toksS : Finset (GSem nD τ sig × ℕ × Fin 3) := Finset.univ.map ⟨ktok, ktok_inj⟩

def u₀ : UU := (initOf (Pipeline.cells cfgs cellOf_inj) (Pipeline.launchToks cfgs cellOf_inj), initOf cellsS toksS)

/-- The rights to give a device's own semaphores, before they are passed to the devices that use them. -/
def allToks (c : Dev nD) : sProp 𝕄 := bigSep Finset.univ fun κ : Ck => bigSep Finset.univ fun j : Fin 3 => dutyTok ER (cell c κ) 0 j

def G (c : Dev nD) : sProp 𝕄 :=
  iprop((bigSep Finset.univ fun κ : Ck => roundState ER (rd m) (cell c κ) 0)
    ∗ (bigSep Finset.univ fun κ : Ck => pos (F := F) c κ) ∗ (bigSep Finset.univ fun κ : Ck => reached ER (cell c κ) 0) ∗ allToks c)

/-- What the joint step makes of it. -/
def G' (c : Dev nD) : sProp 𝕄 :=
  iprop(∃ K : Dev nD × Ck → ℕ, ((bigSep Finset.univ fun p : Dev nD × Ck => cellInv ER (rd m) (K p) (cell p.1 p.2))
    ∗ (bigSep Finset.univ fun p : Dev nD × Ck => reached ER (cell p.1 p.2) 0)) ∗ (bigSepL ckL fun κ => pos c κ) ∗ toks (F := F) c)

theorem bigSep_ck (Φ : Ck → sProp 𝕄) : bigSep Finset.univ Φ = bigSepL ckL Φ := bigSep_univ_eq_bigSepL ckL rfl nodup_ckL Φ

theorem fund : BI.own (ER (initOf cellsS toksS)) ⊢ (|==> bigSep Finset.univ (G m) : sProp 𝕄) := by
  have hX (Φ : GSem nD τ sig → sProp 𝕄) : bigSep cellsS Φ = bigSep Finset.univ fun c : Dev nD => bigSep Finset.univ fun κ : Ck => Φ (cell c κ) := by
    unfold cellsS; rw [bigSep_map, bigSep_univ_prod]; rfl
  have hT : bigSep toksS (fun x => (dutyTok ER x.1 x.2.1 x.2.2 : sProp 𝕄)) = bigSep Finset.univ fun c : Dev nD => allToks c := by
    unfold toksS; rw [bigSep_map, bigSep_univ_prod, bigSep_univ_prod]; rfl
  iintro HX
  imod (Rounds.fund ER (rd m) cellsS toksS) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSepL osL fun κ => zero c κ := by
  rw [Pipeline.ownSems0_eq_of_list c osem osL.attach (by ext k; simp) (List.nodup_attach.mpr (List.nodup_cons.mp nodup_ckL).2)]
  exact (bigSepL_map Subtype.val osL.attach fun κ => zero (F := F) c κ).symm.trans (by rw [List.attach_map_subtype_val])

theorem unscopedSems0_eq (c : Dev nD) : (unscopedSems0 c : sProp 𝕄) = zero c .bar := by
  unfold unscopedSems0; rw [bigSep_eq_bigSepL_of_eq [SemLoc.reg barS] (by decide) (by decide)]; rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ : Ck => iprop(∃ k : ℕ, cellInv ER (rd m) k (cell c κ)))
          ∗ (bigSep Finset.univ fun κ : Ck => pos (F := F) c κ) ∗ (bigSep Finset.univ fun κ : Ck => reached ER (cell c κ) 0) ∗ allToks c) := by
  rw [ownSems0_eq, unscopedSems0_eq]
  unfold G
  iintro ⟨Hos, Hus, Hst, Hat, Hr, Htok⟩
  imod (show iprop((bigSep Finset.univ fun κ : Ck => zero (F := F) c κ) ∗ bigSep Finset.univ fun κ : Ck => roundState ER (rd m) (cell c κ) 0)
      ⊢ (|={Set.univ}=> bigSep Finset.univ fun κ : Ck => iprop(∃ k : ℕ, cellInv ER (rd m) k (cell c κ)) : sProp 𝕄) from by
        rw [← bigSep_sep']
        exact (bigSep_mono fun κ _ => (Rounds.body_intro ER (rd m) (cell c κ)).trans inv_alloc).trans (bigSep_fupd _ _)) $$ [Hos Hus Hst] with Hinv
  · isplitl [Hos Hus]
    · iapply (Entails.of_eq (bigSep_ck fun κ => zero (F := F) c κ).symm)
      iapply (Entails.of_eq (bigSepL_cons' Ck.bar osL fun κ => zero (F := F) c κ).symm)
      isplitl [Hus] <;> iassumption
    iexact Hst
  imodintro
  isplitl [Hinv]; · iexact Hinv
  isplitl [Hat]; · iexact Hat
  isplitl [Hr] <;> iassumption

/-- A family over the devices, each member moved to another device. -/
theorem around {ι : Type} (l : List ι) (e : ι → Dev nD ≃ Dev nD) (Φ : Dev nD → ι → sProp 𝕄) :
    (bigSep Finset.univ fun c => bigSepL l (Φ c)) ⊢ bigSep Finset.univ fun c => bigSepL l fun i => Φ (e i c) i := by
  induction l with
  | nil => exact Entails.of_eq rfl
  | cons i l ih =>
    rw [bigSep_congr fun c _ => bigSepL_cons' i l (Φ c), bigSep_congr fun c _ => bigSepL_cons' i l fun i => Φ (e i c) i, bigSep_sep', bigSep_sep',
      bigSep_univ_equiv (e i) fun c => Φ c i]
    exact sep_mono_right ih

/-- A device's own rights, sorted. -/
theorem toks_own (c : Dev nD) : allToks (F := F) c
    ⊢ iprop((bigSepL cL fun i => dutyTok ER (cell c .bar) 0 i) ∗ (bigSepL trL fun t => tok c (.rcv t))
      ∗ (bigSepL trL fun t => tok c (.snd t)) ∗ tok c .loc ∗ (bigSepL sL fun k => tok c (.st k)) ∗ (bigSepL oL fun b => tok c (.oc b))) := by
  unfold allToks
  rw [bigSep_ck, ck_split, bigSep_univ_eq_bigSepL cL (by decide) (by decide)]
  have h (κ : Ck) : (bigSep Finset.univ fun j : Fin 3 => (dutyTok ER (cell c κ) 0 j : sProp 𝕄)) ⊢ tok c κ := bigSep_elim (Finset.mem_univ (0 : Fin 3))
  iintro ⟨Hb, Hl, Hs, Hd, Hr, Ho⟩
  isplitl [Hb]; · iexact Hb
  isplitl [Hr]; · iapply (bigSepL_mono fun t _ => h (.rcv t)); iexact Hr
  isplitl [Hd]; · iapply (bigSepL_mono fun t _ => h (.snd t)); iexact Hd
  isplitl [Hl]; · iapply (h .loc); iexact Hl
  isplitl [Hs]; · iapply (bigSepL_mono fun k _ => h (.st k)); iexact Hs
  iapply (bigSepL_mono fun b _ => h (.oc b)); iexact Ho

theorem toks_one (c : Dev nD) :
    iprop((bigSepL cL fun i => dutyTok ER (cell (nb i c) .bar) 0 i) ∗ (bigSepL trL fun t => tok (F := F) (peer t c) (.rcv t))
      ∗ (bigSepL trL fun t => tok (F := F) c (.snd t)) ∗ tok c .loc ∗ (bigSepL sL fun k => tok c (.st k)) ∗ (bigSepL oL fun b => tok c (.oc b)))
      ⊢ (toks (F := F) c : sProp 𝕄) := by
  iintro ⟨Hb, Hr, Hd, Ho⟩
  isplitl [Hb]; · iexact Hb
  isplitl [Hr Hd]
  · iapply (bigSepL_sep trL _ _).2
    isplitl [Hd] <;> iassumption
  iexact Ho

theorem toks_sorted :
    (bigSep Finset.univ fun c : Dev nD => iprop((bigSepL cL fun i => dutyTok ER (cell (nb i c) .bar) 0 i) ∗ (bigSepL trL fun t => tok (F := F) (peer t c) (.rcv t))
      ∗ (bigSepL trL fun t => tok (F := F) c (.snd t)) ∗ tok c .loc ∗ (bigSepL sL fun k => tok c (.st k)) ∗ (bigSepL oL fun b => tok c (.oc b))))
      ⊢ (bigSep Finset.univ fun c : Dev nD => toks (F := F) c : sProp 𝕄) :=
  bigSep_mono fun c _ => toks_one c

theorem toks_moved :
    iprop((bigSep Finset.univ fun c : Dev nD => bigSepL cL fun i => dutyTok ER (cell c .bar) 0 i) ∗ (bigSep Finset.univ fun c : Dev nD => bigSepL trL fun t => tok (F := F) c (.rcv t))
      ∗ (bigSep Finset.univ fun c : Dev nD => iprop((bigSepL trL fun t => tok (F := F) c (.snd t)) ∗ tok c .loc ∗ (bigSepL sL fun k => tok c (.st k)) ∗ (bigSepL oL fun b => tok c (.oc b)))))
      ⊢ (bigSep Finset.univ fun c : Dev nD => toks (F := F) c : sProp 𝕄) := by
  iintro ⟨Hb, Hr, Ho⟩
  ihave Hb := (around (F := F) cL nbE fun c i => dutyTok ER (cell c .bar) 0 i) $$ Hb
  ihave Hr := (around (F := F) trL (fun t => nbE (dir t)) fun c t => tok (F := F) c (.rcv t)) $$ Hr
  ihave H := (Entails.of_eq (bigSep_sep' Finset.univ _ _).symm) $$ [Hr Ho]
  · isplitl [Hr] <;> iassumption
  ihave H := (Entails.of_eq (bigSep_sep' Finset.univ _ _).symm) $$ [Hb H]
  · isplitl [Hb] <;> iassumption
  iapply (toks_sorted (F := F)); iexact H

theorem toks_around : (bigSep Finset.univ fun c : Dev nD => allToks (F := F) c) ⊢ (bigSep Finset.univ fun c : Dev nD => toks (F := F) c : sProp 𝕄) :=
  (bigSep_mono fun c _ => toks_own c).trans (by rw [bigSep_sep', bigSep_sep']; exact toks_moved)

/-- Something every device may have, given to each of them. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun κ : Ck => iprop(∃ k : ℕ, cellInv ER (rd m) k (cell c κ)))
          ∗ (bigSep Finset.univ fun κ : Ck => pos (F := F) c κ) ∗ (bigSep Finset.univ fun κ : Ck => reached ER (cell c κ) 0) ∗ allToks c) : sProp 𝕄)
      ⊢ bigSep Finset.univ (G' m) := by
  rw [bigSep_sep', bigSep_sep', bigSep_sep', ← bigSep_univ_prod (fun p : Dev nD × Ck => iprop(∃ k : ℕ, cellInv ER (rd m) k (kcell p))),
    ← bigSep_univ_prod (fun p : Dev nD × Ck => (reached ER (kcell p) 0 : sProp 𝕄))]
  iintro ⟨HI, Hat, #HR, Htok⟩
  ihave HK := (BI.bigSep_exists_pi Finset.univ (fun (p : Dev nD × Ck) (k : ℕ) => (cellInv ER (rd m) k (kcell p) : sProp 𝕄))) $$ HI
  icases HK with ⟨%K, #HI⟩
  ihave Htk := (toks_around (F := F)) $$ Htok
  iapply (bigSep_with (R := iprop((bigSep Finset.univ fun p : Dev nD × Ck => cellInv ER (rd m) (K p) (cell p.1 p.2))
    ∗ (bigSep Finset.univ fun p : Dev nD × Ck => reached ER (cell p.1 p.2) 0)))
    (Φ := fun c => iprop((bigSep Finset.univ fun κ : Ck => pos (F := F) c κ) ∗ toks (F := F) c)) fun c _ => by
      unfold G'
      rw [bigSep_ck]
      iintro ⟨HF, H⟩
      iexists K
      isplitl [HF] <;> iassumption)
  isplitr
  · isplitl; · iexact HI
    iexact HR
  · iapply (Entails.of_eq (bigSep_sep' Finset.univ (fun c : Dev nD => bigSep Finset.univ fun κ : Ck => pos (F := F) c κ) fun c => toks (F := F) c).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## What the devices owe at the launch -/

/-- The remote copies, in the order their arrivals are paid. -/
def payL : List Tr := yL.map .y ++ (wL.map .w ++ (yL.flatMap (fun k => [.x k, .z k]) ++ (cL.map .b ++ cL.map .a)))

/-- What a device owes, by axis and semaphore. -/
def dues : List (Fin 3 × Ck) := cL.map (fun i => (i, .bar)) ++ payL.map fun t => (dir t, .rcv t)

theorem d0_eq (c : Dev nD) : d0 c = dues.map fun p => (nb p.1 c, p.2) := rfl

/-- What is owed to a device. -/
def due (c : Dev nD) : Due := dues.map fun p => (c, p.2)

theorem owed_sum (l : List (Fin 3 × Ck)) :
    (∑ c : Dev nD, owed (l.map fun p => (nb p.1 c, p.2))) = ∑ c : Dev nD, owed (l.map fun p => (c, p.2)) := by
  induction l with
  | nil => rfl
  | cons p l ih =>
    simp only [List.map_cons, owed, Finset.sum_add_distrib]
    rw [ih, ← Equiv.sum_comp (nbE p.1) fun c => tallyAt (cell c p.2) () (amt p.2)]
    rfl

theorem owed_split (ps qs : Due) : owed (ps ++ qs) = owed qs + owed ps := by
  induction ps with
  | nil => exact (add_zero _).symm
  | cons p ps ih => rw [List.cons_append, owed, owed, ih, add_assoc]

theorem cred_list (c : Dev nD) (l : List Tr) : (cred (owed (l.map fun t => (c, Ck.rcv t))) : sProp 𝕄) ⊢ bigSepL l fun t => crd c (.rcv t) := by
  induction l with
  | nil => rw [List.map_nil, show owed [] = 0 from rfl, cred_zero, bigSepL_nil]; exact .rfl
  | cons t l ih =>
    rw [List.map_cons, owed, bigSepL_cons']
    iintro H
    ihave H := (cred_add _ _).1 $$ H
    icases H with ⟨H, Ht⟩
    isplitl [Ht]; · iexact Ht
    iapply ih; iexact H

theorem creds (c : Dev nD) : (Pipeline.launchCred (fun c => owed (d0 c)) c : sProp 𝕄) ⊢ iprop(crd c .bar ∗ bigSepL trL fun t => crd c (.rcv t)) := by
  rw [Pipeline.launchCred_of_sum (fun c => owed (d0 c)) (fun c => owed (due c)) (owed_sum dues) (fun d g h => by
    obtain ⟨u, hu⟩ := Finsupp.ne_iff.mp h
    obtain ⟨p, hp, rfl⟩ := owed_pos (due d) g u (Nat.pos_of_ne_zero hu)
    obtain ⟨q, -, rfl⟩ := List.mem_map.mp hp
    rfl) c]
  have h : owed (due c) = owed (payL.map fun t => (c, Ck.rcv t)) + tallyAt (cell c .bar) () (tot .bar) := by
    unfold due dues
    rw [List.map_append, owed_split, List.map_map, List.map_map]
    congr 1
    show ((0 + tallyAt (cell c .bar) () 1) + tallyAt (cell c .bar) () 1) + tallyAt (cell c .bar) () 1 = _
    rw [zero_add, tallyAt_add, tallyAt_add]
    rfl
  rw [h, ← bigSep_univ_eq_bigSepL trL rfl nodup_trL, bigSep_univ_eq_bigSepL payL (by decide +kernel) (by decide +kernel)]
  iintro H
  ihave H := (cred_add _ _).1 $$ H
  icases H with ⟨H, Hb⟩
  isplitl [Hb]; · iexact Hb
  iapply (cred_list c payL); iexact H

/-! ## Into the call and out of it -/

theorem any_of_pts (c : Dev nD) (b : Ref sig .tc) :
    (iprop(∃ f : Buf (Elt F) ((c : Thread nD τ).loc b), ((c : Thread nD τ).loc b) ↦{fullShare} f) : sProp 𝕄) ⊢ anyOf (F := F) c (Memref.whole b) fullShare := by
  unfold anyOf
  iintro ⟨%f, H⟩
  iexists f
  iapply (Entails.of_eq (owns_whole (c : Thread nD τ) b fullShare f).symm)
  iexact H

theorem pts_of_any (c : Dev nD) (b : Ref sig .tc) : anyOf (F := F) c (Memref.whole b) fullShare
    ⊢ (iprop(∃ f : Buf (Elt F) ((c : Thread nD τ).loc b), ((c : Thread nD τ).loc b) ↦{fullShare} f) : sProp 𝕄) := by
  unfold anyOf
  iintro ⟨%f, H⟩
  iexists f
  iapply (Entails.of_eq (owns_whole (c : Thread nD τ) b fullShare f))
  iexact H

theorem scr_in (c : Dev nD) : (Pipeline.scopedRest cfg0.spec c : sProp 𝕄) ⊢ scr (F := F) c := by
  rw [scopedRest0_eq]
  exact BI.sep_mono (any_of_pts c _) (BI.sep_mono (any_of_pts c _) (BI.sep_mono (any_of_pts c _) (BI.sep_mono (any_of_pts c _) (BI.sep_mono (any_of_pts c _)
    (BI.sep_mono (any_of_pts c _) (BI.sep_mono (any_of_pts c _) (BI.sep_mono (any_of_pts c _) (BI.sep_mono (any_of_pts c _) (any_of_pts c _)))))))))

theorem scr_out (c : Dev nD) : scr (F := F) c ⊢ (Pipeline.scopedRest cfg0.spec c : sProp 𝕄) := by
  rw [scopedRest0_eq]
  exact BI.sep_mono (pts_of_any c _) (BI.sep_mono (pts_of_any c _) (BI.sep_mono (pts_of_any c _) (BI.sep_mono (pts_of_any c _) (BI.sep_mono (pts_of_any c _)
    (BI.sep_mono (pts_of_any c _) (BI.sep_mono (pts_of_any c _) (BI.sep_mono (pts_of_any c _) (BI.sep_mono (pts_of_any c _) (pts_of_any c _)))))))))

theorem start_intro (c : Dev nD) :
    iprop(Pipeline.unscopedRestP Pipeline.Prefetch.none cfg0.spec c (fun b => m ((c : Thread nD τ).loc b)) ∗ levAts L lv
        ∗ Pipeline.launchCred (fun c => owed (d0 c)) c ∗ prngReg c (ρ c) ∗ G' m c)
      ⊢ |={Set.univ}=> iprop(start m c ∗ emp) := by
  iintro ⟨Hu, Hlev, Hcr, -, HG⟩
  ihave Hc := (creds (F := F) c) $$ Hcr
  ihave Hu := (Entails.of_eq (Pipeline.unscopedRestP_none cfg0.spec c (fun b => m ((c : Thread nD τ).loc b)))) $$ Hu
  ihave Hu := (Entails.of_eq (unscopedRest0_eq c (fun b => m ((c : Thread nD τ).loc b)))) $$ Hu
  icases Hu with ⟨Ha, Ho⟩
  imodintro
  isplitl
  · unfold start G' facts argOf someOf
    icases HG with ⟨%K, ⟨HI, HR⟩, Hp, Ht⟩
    iexists K
    isplitl [HI HR Hlev]
    · isplitl [HI]; · iexact HI
      isplitl [HR] <;> iassumption
    isplitl [Hp]; · iexact Hp
    isplitl [Hc]; · iexact Hc
    isplitl [Ht]; · iexact Ht
    isplitl [Ha]
    · iexists fullShare
      iapply (Entails.of_eq (owns_whole (c : Thread nD τ) main_arg0 fullShare (argV m c)).symm)
      iexact Ha
    iapply (any_of_pts c main_v1)
    iexists _; iexact Ho
  · iempintro

theorem call_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr (F := F) c) from rfl]
  iintro ⟨Hs, -, Hr⟩
  isplitl [Hs]; · iexact Hs
  iapply (scr_in c); iexact Hr

theorem call_out (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = iprop(final m c ∗ (bigSepL osL fun κ => zero c κ) ∗ scr (F := F) c) from rfl, ownSems0_eq]
  iintro ⟨Hf, Hz, Hs⟩
  isplitl [Hf]; · iexact Hf
  isplitl [Hz]; · iexact Hz
  iapply (scr_out c); iexact Hs

theorem waits (c : Dev nD) : (levAts L lv : sProp 𝕄) ⊢ Pipeline.cellsWaits cfgs (dats m) () 0 c :=
  Pipeline.cellsWaits_intro cfgs (dats m) () 0 c fun w => w.elim0

/-- A whole buffer held is what the memory holds. -/
theorem read_whole (c : Dev nD) (b : Ref sig .tc) (q : PosShare TreeShare) (f : Buf (Elt F) ((c : Thread nD τ).loc b)) (s' : Phys nD τ sig (Elt F)) :
    iprop(ownsTc c (Memref.whole b) q f ∗ SI s') ⊢ (⌜s'.mem.mem ((c : Thread nD τ).loc b) = f⌝ : sProp 𝕄) := by
  iintro ⟨H, HSI⟩
  ihave H := (Entails.of_eq (owns_whole (c : Thread nD τ) b q f)) $$ H
  ihave %h := (SI_pointsTo_agree) $$ [HSI H]
  · isplitl [HSI] <;> iassumption
  ipureintro
  exact Buf.eq_of_forall_mem_univ h

/-- What is known of a device at the end. -/
def Known (c : Dev nD) (s : MemSt nD τ sig (Elt F)) : Prop :=
  s.mem ((c : Thread nD τ).loc main_arg0) = m ((c : Thread nD τ).loc main_arg0)
    ∧ s.mem ((c : Thread nD τ).loc main_v1) = patch c (blkV m c)
    ∧ ∀ sm : SemLoc sig, sm.isScoped .tc = false → s.sem ((c.tc : Thread nD τ), sm) = 0

theorem read_final (c : Dev nD) (s' : Phys nD τ sig (Elt F)) :
    iprop(final m c ∗ emp ∗ SI s') ⊢ |={Set.univ}=> iprop(⌜Known m c s'.mem⌝ ∗ SI s') := by
  unfold final argOf someOf
  rw [← unscopedSems0_eq]
  iintro ⟨⟨Hz, ⟨%q, Ha⟩, Ho⟩, -, HSI⟩
  ihave Ho := (blks_join c outM fun b => blkV m c b) $$ Ho
  ihave %ha := (read_whole c main_arg0 q (argV m c) s') $$ [Ha HSI]
  · isplitl [Ha] <;> iassumption
  ihave %ho := (read_whole c main_v1 fullShare (patch c fun b => blkV m c b) s') $$ [Ho HSI]
  · isplitl [Ho] <;> iassumption
  imod (Pipeline.unscopedSems0_read (X := unscopedSems0 c) (c := c) fupd_intro s') $$ [Hz HSI] with ⟨%hz, HSI⟩
  · isplitl [Hz] <;> iassumption
  imodintro
  isplitr; · ipureintro; exact ⟨ha, ho, hz⟩
  iexact HSI

/-! ## The run -/

set_option maxRecDepth 65536 in
/-- From any memory with every semaphore at zero the program runs to its end on every device, and leaves each device's
    argument as it was, each semaphore at zero, and each device's result with the six blocks in place. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = patch c (blkV m c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := fun c => owed (d0 c)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := final m) (Z := fun _ => iprop(emp))
    (hX := start_intro m ρ) (hin := call_in m) (hout := call_out m)
    (QY := Known m) (hY := read_final m)
    (hQ := fun _ h hs => ⟨fun c => ⟨(h c).2.2.1, (h c).2.2.2.1⟩, sem_eq_zero hs fun c => (h c).2.2.2.2⟩)

end Cert.KernelIdeal

end
-- ==== Proof.Values.lean ====
/- What the result holds, element by element, and that the reference holds the same. -/
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.Pointwise.Reduce
public import Idealize.ShloMosaic.PureOps.Ideal.Laws

@[expose] public section

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## The whole argument -/

/-- The shape of the whole argument. -/
abbrev Big : Shape := ⟨3, ![2, 4096, 2048]⟩

/-- An element of the whole argument by its coordinates. -/
def el {α : Type} (w : Big.Idx → α) (p r l : ℕ) : α :=
  w (ix3 (⟨p % 2, Nat.mod_lt _ (by decide)⟩ : Fin 2) (⟨r % 4096, Nat.mod_lt _ (by decide)⟩ : Fin 4096) (⟨l % 2048, Nat.mod_lt _ (by decide)⟩ : Fin 2048))

/-- The half of the argument a device holds. -/
def yc (c : Dev nD) : ℕ := c.val / 4 % 2

/-- Every device holds its half of the whole argument. -/
def Dealt (w : Big.Idx → Elt F .f32) : Prop :=
  ∀ c : Dev nD, m ((c.tc : Thread nD τ).loc main_arg0) = Layout.blockN ⟨3, ![1, 4096, 2048]⟩ ⟨3, ![2, 4096, 2048]⟩ (Layout.meshBlock [2, 2, 4] ![[1], [], []] c) w

theorem mesh_y : ∀ c : Dev nD, Layout.meshLin [2, 2, 4] c.val [1] = yc c := by decide +kernel

theorem mesh_none : ∀ c : Dev nD, Layout.meshLin [2, 2, 4] c.val [] = 0 := by decide +kernel

section
variable (w : Big.Idx → Elt F .f32) (hw : Dealt m w)
include hw

theorem argV_el (c : Dev nD) (i : S1x4096x2048.Idx) : argV m c i = el w (yc c) (i 1).val (i 2).val := by
  unfold argV
  rw [hw c]
  have h0 := mesh_y c
  have h1 := mesh_none c
  have i0 : (i 0).val < 1 := (i 0).isLt
  have i1 : (i 1).val < 4096 := (i 1).isLt
  have i2 : (i 2).val < 2048 := (i 2).isLt
  have hy : yc c < 2 := Nat.mod_lt _ (by decide)
  refine congrArg w (funext fun a => ?_)
  match a with
  | ⟨0, _⟩ =>
    refine Fin.ext ?_
    show Layout.meshLin [2, 2, 4] c.val [1] * 1 + (i 0).val = yc c % 2
    rw [h0]; omega
  | ⟨1, _⟩ =>
    refine Fin.ext ?_
    show Layout.meshLin [2, 2, 4] c.val [] * 4096 + (i 1).val = (i 1).val % 4096
    rw [h1]; omega
  | ⟨2, _⟩ =>
    refine Fin.ext ?_
    show Layout.meshLin [2, 2, 4] c.val [] * 2048 + (i 2).val = (i 2).val % 2048
    rw [h1]; omega

end

/-! ## What is read of the argument -/

/-- Rows and columns of the argument, read without the leading axis. -/
theorem rows_read {h : ℕ} (off : Fin 3 → ℕ) (inb : ∀ a, off a + (![1, h, 1024] : Fin 3 → ℕ) a ≤ S1x4096x2048.size a)
    (sq : (⟨3, ![1, h, 1024]⟩ : Shape).Squeezes (Sh h)) (hc : (⟨3, ![1, h, 1024]⟩ : Shape).ShapeCasts (Sh h))
    (f : (main_arg0 : Ref sig .tc).ty.Contents (Elt F)) (j : (Sh h).Idx) (i : S1x4096x2048.Idx)
    (h1 : (i 1).val = off 1 + (j 0).val) (h2 : (i 2).val = off 2 + (j 1).val) :
    ((inM.slice (Rect.unit (s := S1x4096x2048) off ![1, h, 1024] inb) (fun _ => rfl)).squeeze (Sh h) sq).view.read (Elt F) f j = f i := by
  have j0 : (j 0).val < h := (j 0).isLt
  have j1 : (j 1).val < 1024 := (j 1).isLt
  have e := Memref.read_squeeze_slice (Val := Elt F) inM (Rect.unit (s := S1x4096x2048) off ![1, h, 1024] inb) (fun _ => rfl) sq hc f
  rw [e]
  rw [shapeCast_apply _ hc j (ix3 (⟨0, by decide⟩ : Fin 1) (⟨(j 0).val, j0⟩ : Fin h) (⟨(j 1).val, j1⟩ : Fin 1024))
    (by rw [Shape.rowMajor_val_three, Shape.rowMajor_val_two]; simp)]
  refine congrArg f (funext fun a => ?_)
  have b0 : off 0 + 1 ≤ 1 := inb 0
  have i0 : (i 0).val < 1 := (i 0).isLt
  match a with
  | ⟨0, _⟩ => exact Fin.ext (by show off 0 + 1 * 0 = (i 0).val; omega)
  | ⟨1, _⟩ => exact Fin.ext (by show off 1 + 1 * (j 0).val = (i 1).val; omega)
  | ⟨2, _⟩ => exact Fin.ext (by show off 2 + 1 * (j 1).val = (i 2).val; omega)

theorem st_col : ∀ (d : Dev nD) (k : Fin 10), stOff d k 2 = 1024 * (1 - yc d) := by decide +kernel

theorem lo_at : ∀ d : Dev nD, k0_off3 d 1 = 0 ∧ k0_off3 d 2 = 1024 * yc d := by decide +kernel

section
variable (w : Big.Idx → Elt F .f32) (hw : Dealt m w)
include hw

theorem stV_el (c : Dev nD) (k : Fin 10) (j : S128x1024.Idx) :
    stV m c k j = el w (yc c) (stOff c k 1 + (j 0).val) (1024 * (1 - yc c) + (j 1).val) := by
  have j0 : (j 0).val < 128 := (j 0).isLt
  have j1 : (j 1).val < 1024 := (j 1).isLt
  have b0 : stOff c k 1 + 128 ≤ 4096 := stOff_inb c k 1
  have b1 : stOff c k 2 + 1024 ≤ 2048 := stOff_inb c k 2
  have e := rows_read (h := 128) (stOff c k) (stOff_inb c k) squeezes_S1x128x1024_S128x1024 (by decide) (argV m c) j
    (ix3 (⟨0, by decide⟩ : Fin 1) (⟨stOff c k 1 + (j 0).val, by omega⟩ : Fin 4096) (⟨stOff c k 2 + (j 1).val, by omega⟩ : Fin 2048)) rfl rfl
  unfold stV
  rw [← st_col c k]
  exact e.trans (argV_el m w hw c _)

theorem loV_el (c : Dev nD) (j : S4096x1024.Idx) : loV m c j = el w (yc c) (j 0).val (1024 * yc c + (j 1).val) := by
  have j0 : (j 0).val < 4096 := (j 0).isLt
  have j1 : (j 1).val < 1024 := (j 1).isLt
  have hy : yc c < 2 := Nat.mod_lt _ (by decide)
  obtain ⟨h1, h2⟩ := lo_at c
  have e := rows_read (h := 4096) (k0_off3 c) (k0_off3_inb c) squeezes_S1x4096x1024_S4096x1024 (by decide) (argV m c) j
    (ix3 (⟨0, by decide⟩ : Fin 1) (⟨(j 0).val, j0⟩ : Fin 4096) (⟨1024 * yc c + (j 1).val, by omega⟩ : Fin 2048))
    (by rw [h1]; exact (Nat.zero_add _).symm) (by rw [h2]; rfl)
  unfold loV
  exact e.trans (argV_el m w hw c _)

theorem ysV_el (c : Dev nD) (k : Fin 10) (j : S128x1024.Idx) :
    ysV m c k j = FloatOps.truncf .bf16 bitsLt_bf16_f32 (el w (yc c) (stOff c k 1 + (j 0).val) (1024 * (1 - yc c) + (j 1).val)) := by
  rw [← stV_el m w hw c k j]
  unfold ysV k0_pay1
  exact congrFun (shapeCast_self _ shapeCasts_S128x1024_S128x1024) j

end

/-! ## What arrives -/

/-- The row a remote copy's rows start at in the result. -/
def rowOf (c : Dev nD) : Tr → ℕ
  | .y k => (blk c 0).off' 0 + 128 * k.val
  | .x k => (blk c 1).off' 0 + 128 * k.val
  | .z k => (blk c 2).off' 0 + 128 * k.val
  | .w k => (blk c 3).off' 0 + 128 * k.val
  | .a k => (blk c 4).off' 0 + 128 * k.val
  | .b k => (blk c 5).off' 0 + 128 * k.val

/-- The device a remote copy's rows first came from, and the chunk they were there. -/
def orig (c : Dev nD) : Tr → Dev nD × Fin 10
  | .y k => (nb 0 c, ⟨k.val, by omega⟩)
  | .w k => (nb 0 c, ⟨8 + k.val, by omega⟩)
  | .x k => (nb 0 (nb 1 c), ⟨k.val, by omega⟩)
  | .z k => (nb 0 (nb 2 c), ⟨k.val, by omega⟩)
  | .a k => (nb 0 (nb 2 (nb 1 c)), ⟨2 + k.val, by omega⟩)
  | .b k => (nb 0 (nb 1 (nb 2 c)), ⟨5 + k.val, by omega⟩)

theorem tv_orig (c : Dev nD) (t : Tr) : tv m c t = ysV m (orig c t).1 (orig c t).2 := by cases t <;> rfl

theorem orig_at : ∀ (c : Dev nD) (t : Tr), yc (orig c t).1 = 1 - yc c ∧ stOff (orig c t).1 (orig c t).2 1 = rowOf c t := by
  intro c t
  cases t with
  | y k => revert c k; decide +kernel
  | w k => revert c k; decide +kernel
  | x k => revert c k; decide +kernel
  | z k => revert c k; decide +kernel
  | a k => revert c k; decide +kernel
  | b k => revert c k; decide +kernel

theorem glue_el {n R : ℕ} {α : Type} (hR : R = 128 * n) (g : Fin n → S128x1024.Idx → α) (o : ℕ) (G : ℕ → ℕ → α)
    (hg : ∀ k j, g k j = G (o + 128 * k.val + (j 0).val) (j 1).val) (i : (Sh R).Idx) : glue hR g i = G (o + (i 0).val) (i 1).val := by
  unfold glue
  rw [hg]
  refine congrArg (fun n => G n (i 1).val) ?_
  show o + 128 * ((i 0).val / 128) + (i 0).val % 128 = o + (i 0).val
  omega

section
variable (w : Big.Idx → Elt F .f32) (hw : Dealt m w)
include hw

theorem tv_el (c : Dev nD) (t : Tr) (j : S128x1024.Idx) :
    tv m c t j = FloatOps.truncf .bf16 bitsLt_bf16_f32 (el w (1 - yc c) (rowOf c t + (j 0).val) (1024 * yc c + (j 1).val)) := by
  have hy : yc c < 2 := Nat.mod_lt _ (by decide)
  obtain ⟨h1, h2⟩ := orig_at c t
  rw [tv_orig, ysV_el m w hw, h1, h2, show 1 - (1 - yc c) = yc c by omega]

theorem glue_tv {n R : ℕ} (hR : R = 128 * n) (c : Dev nD) (o : ℕ) (t : Fin n → Tr) (ht : ∀ k, rowOf c (t k) = o + 128 * k.val) (i : (Sh R).Idx) :
    glue hR (fun k => tv m c (t k)) i
      = FloatOps.truncf .bf16 bitsLt_bf16_f32 (el w (1 - yc c) (o + (i 0).val) (1024 * yc c + (i 1).val)) :=
  glue_el hR (fun k => tv m c (t k)) o (fun r l => FloatOps.truncf .bf16 bitsLt_bf16_f32 (el w (1 - yc c) r (1024 * yc c + l)))
    (fun k j => by rw [← ht k]; exact tv_el m w hw c (t k) j) i

theorem rcvV_el (c : Dev nD) (b : Fin 6) (j : (Sh (blk c b).h).Idx) :
    rcvV m c b j = FloatOps.truncf .bf16 bitsLt_bf16_f32 (el w (1 - yc c) ((blk c b).off' 0 + (j 0).val) (1024 * yc c + (j 1).val)) := by
  match b with
  | 0 => exact glue_tv m w hw (R := 1024) rfl c ((blk c 0).off' 0) (fun k : Fin 8 => .y k) (fun _ => rfl) j
  | 1 => exact glue_tv m w hw (R := 1024) rfl c ((blk c 1).off' 0) (fun k : Fin 8 => .x k) (fun _ => rfl) j
  | 2 => exact glue_tv m w hw (R := 1024) rfl c ((blk c 2).off' 0) (fun k : Fin 8 => .z k) (fun _ => rfl) j
  | 3 => exact glue_tv m w hw (R := 256) rfl c ((blk c 3).off' 0) (fun k : Fin 2 => .w k) (fun _ => rfl) j
  | 4 => exact glue_tv m w hw (R := 384) rfl c ((blk c 4).off' 0) (fun k : Fin 3 => .a k) (fun _ => rfl) j
  | 5 => exact glue_tv m w hw (R := 384) rfl c ((blk c 5).off' 0) (fun k : Fin 3 => .b k) (fun _ => rfl) j

/-! ## The result -/

/-- An element of the result: the device's own half of it plus the other half, rounded before it was sent, and the sum rounded. -/
def outEl {F : FTy → Type} [FloatOps F] (w : Big.Idx → Elt F .f32) (y r l : ℕ) : Elt F .bf16 :=
  FloatOps.truncf .bf16 bitsLt_bf16_f32 (FloatOps.addf (φ := .f32) (el w y r (1024 * y + l))
    (FloatOps.extf .f32 bitsLt_bf16_f32 (FloatOps.truncf .bf16 bitsLt_bf16_f32 (el w (1 - y) r (1024 * y + l)))))

theorem blkV_el (c : Dev nD) (b : Fin 6) (j : (Sh (blk c b).h).Idx) :
    blkV m c b j = outEl w (yc c) ((blk c b).off' 0 + (j 0).val) (j 1).val := by
  unfold outEl
  rw [← rcvV_el m w hw c b j]
  have e := loV_el m w hw c ((blk c b).rect.emb j)
  have e0 : ((blk c b).rect.emb j 0).val = (blk c b).off' 0 + (j 0).val := by
    show (blk c b).off 0 + 1 * (j 0).val = _
    rw [blk_off]; omega
  have e1 : ((blk c b).rect.emb j 1).val = (j 1).val := by
    show (blk c b).off 1 + 1 * (j 1).val = _
    rw [blk_off, blk_off1]; omega
  rw [e0, e1] at e
  rw [← e]
  unfold blkV addPay
  exact congrFun (shapeCast_self _ (blk c b).sc) j

theorem out_el (c : Dev nD) (i : S4096x1024.Idx) : patch c (blkV m c) i = outEl w (yc c) (i 0).val (i 1).val := by
  obtain ⟨j, hj⟩ := (blk c (blkOf c i)).rect'.exists_idx_of_mem (mem_blkOf c i)
  have hj' : (blk c (blkOf c i)).rect'.emb j = i := hj
  generalize blkOf c i = b at j hj hj'
  subst hj'
  have h0 : ((blk c b).rect'.emb j 0).val = (blk c b).off' 0 + (j 0).val := by
    show (blk c b).off' 0 + 1 * (j 0).val = _
    omega
  have h1 : ((blk c b).rect'.emb j 1).val = (j 1).val := by
    show (blk c b).off' 1 + 1 * (j 1).val = _
    rw [blk_off1]; omega
  rw [h0, h1, ← blkV_el m w hw c b j]
  exact congrFun (patch_emb c (blkV m c) b) j

end

/-! ## The reference -/

/-- What the reference's result holds. -/
def refOut (w : Big.Idx → Elt Ideal .f32) : (⟨2, ![4096, 2048]⟩ : Shape).Idx → Elt Ideal .bf16 :=
  truncf (F := Ideal) .bf16 (Host.reduceAdd (F := Ideal) w (constant (F := Ideal) Cert.ReferenceIdeal.S_ .f32 0x00000000#32)
    Cert.ReferenceIdeal.Gen.reducesTo_S2x4096x2048_S4096x2048_d0 Cert.ReferenceIdeal.Gen.h_S_) Cert.ReferenceIdeal.Gen.bitsLt_bf16_f32

theorem refOut_el (w : Big.Idx → Elt Ideal .f32) (i : (⟨2, ![4096, 2048]⟩ : Shape).Idx) :
    refOut w i = (el w 0 (i 0).val (i 1).val : EReal) + el w 1 (i 0).val (i 1).val := by
  have i0 : (i 0).val < 4096 := (i 0).isLt
  have i1 : (i 1).val < 2048 := (i 1).isLt
  have e : refOut w i = Ideal.hostReduceAdd Cert.ReferenceIdeal.Gen.reducesTo_S2x4096x2048_S4096x2048_d0 w (Ideal.ofBits .f32 0x00000000#32) i := rfl
  rw [e, Ideal.hostReduceAdd_r3_a0, Ideal.ofBits_zero_f32, zero_add, Fin.sum_univ_two]
  have g (p : Fin 2) : el w p.val (i 0).val (i 1).val = w (ix3 p ⟨(i 0).val, i0⟩ ⟨(i 1).val, i1⟩) := by
    have := p.isLt
    exact congrArg w (congr (congrArg₂ ix3 (Fin.ext (by show p.val % 2 = p.val; omega)) (Fin.ext (by show (i 0).val % 4096 = (i 0).val; omega)))
      (Fin.ext (by show (i 1).val % 2048 = (i 1).val; omega)))
  exact (congrArg₂ (fun a b : EReal => a + b) (g 0) (g 1)).symm

/-- A device's result is its part of the reference's. -/
theorem out_ref (m : (ℓ : Loc nD τ sig) → Buf (Elt Ideal) ℓ) (w : Big.Idx → Elt Ideal .f32) (hw : Dealt m w) (c : Dev nD) :
    patch c (blkV m c) = Layout.blockN ⟨2, ![4096, 1024]⟩ ⟨2, ![4096, 2048]⟩ (Layout.meshBlock [2, 2, 4] ![[], [1]] c) (refOut w) := by
  funext i
  have h0 := mesh_none c
  have h1 := mesh_y c
  have hy : yc c < 2 := Nat.mod_lt _ (by decide)
  rw [out_el m w hw c i, Layout.blockN_apply, refOut_el]
  have e0 : Layout.meshLin [2, 2, 4] c.val [] * 4096 + (i 0).val = (i 0).val := by rw [h0]; omega
  have e1 : Layout.meshLin [2, 2, 4] c.val [1] * 1024 + (i 1).val = 1024 * yc c + (i 1).val := by rw [h1]; omega
  have ev (r l r' l' : ℕ) (hr : r = r') (hl : l = l') : (el w 0 r l : EReal) + el w 1 r l = el w 0 r' l' + el w 1 r' l' := by rw [hr, hl]
  refine Eq.trans ?_ (ev _ _ _ _ e0 e1).symm
  show (el w (yc c) (i 0).val (1024 * yc c + (i 1).val) : EReal) + el w (1 - yc c) (i 0).val (1024 * yc c + (i 1).val) = _
  rcases (show yc c = 0 ∨ yc c = 1 by omega) with h | h <;> rw [h]
  exact add_comm _ _

end Cert.KernelIdeal

end
-- ==== Proof.lean ====
/- The proof of the claims: the kernel and the reference run, keep their arguments and leave every counter at zero, and over
   the extended reals each device's result is its part of the reference's. The run of the kernel is Proof/Run.lean's; what its
   result holds is Proof/Values.lean's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Lib.Quiescent
public import Idealize.ShloMosaic.Init

@[expose] public section

noncomputable section

namespace Cert.Proof

open Idealize.ShloMosaic Idealize.SL.Sem

/-- The kernel as printed runs, keeps its argument and leaves every counter at zero: the idealized program has the same
    text, and its run holds over any float values. -/
theorem frame_kernel : Cert.quiescent_Kernel := fun m ρ _ =>
  (θ_run Cert.KernelIdeal.defs _ _).mono (fun _ h => ⟨fun c => (h.1 c).1, h.2⟩) (Cert.KernelIdeal.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).1, h.2⟩) (Cert.KernelIdeal.run_main (F := Ideal) m ρ)

/-- The reference runs and keeps its argument; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its half of the columns of the sum of the two halves of the whole argument. -/
theorem algebraic_sum : Cert.algebraic_KernelIdeal_ReferenceIdeal := fun m g m' g' _ hag =>
  ⟨Cert.KernelIdeal.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.KernelIdeal.out_ref m _ hag c), (h.1 c).1⟩)
      (Cert.KernelIdeal.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, algebraic_sum⟩

end Cert.Proof

end
